-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_near_tie [hPre_no_near_tie : Cert.Pre_no_near_tie.Facts] (m : (ℓ : Loc Cert.KernelIdeal.nD Cert.KernelIdeal.τ Cert.KernelIdeal.sig) → Buf (Elt Ideal) ℓ) : Prop :=
  ∀ c : Dev Cert.KernelIdeal.nD,
    (Cert.Pre_no_near_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_near_tie [hPre_no_near_tie : Cert.Pre_no_near_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_near_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_no_near_tie [hKernelIdeal : Cert.KernelIdeal.Facts] [hPre_no_near_tie : Cert.Pre_no_near_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_near_tie m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_no_near_tie [hReferenceIdeal : Cert.ReferenceIdeal.Facts] [hPre_no_near_tie : Cert.Pre_no_near_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_near_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "big" .f32 0x7149F2CA#32 ⊤

def algebraic_KernelIdeal_ReferenceIdeal_pre_no_near_tie [hKernelIdeal : Cert.KernelIdeal.Facts] [hReferenceIdeal : Cert.ReferenceIdeal.Facts] [hPre_no_near_tie : Cert.Pre_no_near_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_near_tie m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_no_near_tie : Cert.Pre_no_near_tie.Facts),
    quiescent_Kernel (hKernel := hKernel)
    ∧ quiescent_KernelIdeal (hKernelIdeal := hKernelIdeal)
    ∧ quiescent_KernelIdeal_pre_no_near_tie (hKernelIdeal := hKernelIdeal) (hPre_no_near_tie := hPre_no_near_tie)
    ∧ quiescent_ReferenceIdeal (hReferenceIdeal := hReferenceIdeal)
    ∧ quiescent_ReferenceIdeal_pre_no_near_tie (hReferenceIdeal := hReferenceIdeal) (hPre_no_near_tie := hPre_no_near_tie)
    ∧ preserves_Kernel_KernelIdeal
    ∧ algebraic_KernelIdeal_ReferenceIdeal_pre_no_near_tie (hKernelIdeal := hKernelIdeal) (hReferenceIdeal := hReferenceIdeal) (hPre_no_near_tie := hPre_no_near_tie)
-- ==== Pre_no_near_tie.lean ====
abbrev S4x4096x3 : Shape := ⟨3, ![4, 4096, 3]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S4x3x4096 : Shape := ⟨3, ![4, 3, 4096]⟩
abbrev S4x4096x10 : Shape := ⟨3, ![4, 4096, 10]⟩
abbrev S4x4096x9 : Shape := ⟨3, ![4, 4096, 9]⟩

class Facts : Prop where
  reducesTo_S4x4096x3_S4x4096_d2 : S4x4096x3.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  transposes_S4x4096x3_S4x3x4096_0_2_1 : S4x4096x3.Transposes [0, 2, 1] S4x3x4096
  bcast_S_S4x4096x4096 : S_.BroadcastsInDim S4x4096x4096 (![] : Fin 0 → Fin S4x4096x4096.rank)
  sliceFits_S4x4096x4096_S4x4096x10 : S4x4096x4096.Slices (fun _ => 0) S4x4096x10
  slices_S4x4096x10_S4x4096x9_0_0_0 : S4x4096x10.Slices ![0, 0, 0] S4x4096x9
  slices_S4x4096x10_S4x4096x9_0_0_1 : S4x4096x10.Slices ![0, 0, 1] S4x4096x9
  dot_S4x4096x3_S4x3x4096_S4x4096x4096_2_1_1_2_0_0_wf : DotDims.WF S4x4096x3 S4x3x4096 S4x4096x4096 [2] [1] [1] [2] [0] [0]

variable [Facts]

def dot_S4x4096x3_S4x3x4096_S4x4096x4096_2_1_1_2_0_0 : DotDims S4x4096x3 S4x3x4096 S4x4096x4096 where
  lhsContracting := [2]
  rhsContracting := [1]
  lhsNonContracting := [1]
  rhsNonContracting := [2]
  lhsBatch := [0]
  rhsBatch := [0]
  wf := dot_S4x4096x3_S4x3x4096_S4x4096x4096_2_1_1_2_0_0_wf
def fn_part2 {F : FTy → Type} [FloatOps F] (main_v18 : IVec S4x4096x9 1) (main_v37 : IVec S4x4096x9 1) : IVec S4x4096x9 1 :=
  let main_v38 : IVec S4x4096x9 1 := andi main_v18 main_v37
  main_v38

def fn_part1 {F : FTy → Type} [FloatOps F] (main_arg1 : FVec F S4x4096x3 .f32) (main_v18 : IVec S4x4096x9 1) : IVec S4x4096x9 1 :=
  let main_v19 : FVec F S4x4096x3 .f32 := mulf main_arg1 main_arg1
  let main_cst_2 : FVec F S_ .f32 := constant S_ .f32 0x00000000#32
  let main_v20 : FVec F S4x4096 .f32 := (fun x v => Host.reduceAdd x v reducesTo_S4x4096x3_S4x4096_d2 h_S_) main_v19 main_cst_2
  let main_v21 : FVec F S4x4096x1 .f32 := broadcastInDim S4x4096x1 ![0, 1] bcast_S4x4096_S4x4096x1_0_1 main_v20
  let main_v22 : FVec F S4x1x4096 .f32 := broadcastInDim S4x1x4096 ![0, 2] bcast_S4x4096_S4x1x4096_0_2 main_v20
  let main_v23 : FVec F S4x4096x4096 .f32 := broadcastInDim S4x4096x4096 ![0, 1, 2] bcast_S4x4096x1_S4x4096x4096_0_1_2 main_v21
  let main_v24 : FVec F S4x4096x4096 .f32 := broadcastInDim S4x4096x4096 ![0, 1, 2] bcast_S4x1x4096_S4x4096x4096_0_1_2 main_v22
  let main_v25 : FVec F S4x4096x4096 .f32 := addf main_v23 main_v24
  let main_v26 : FVec F S4x3x4096 .f32 := (transpose S4x3x4096 [0, 2, 1] · transposes_S4x4096x3_S4x3x4096_0_2_1) main_arg1
  let main_v27 : FVec F S4x4096x4096 .f32 := (fun l r => Host.dotGeneral dot_S4x4096x3_S4x3x4096_S4x4096x4096_2_1_1_2_0_0 none l r) main_arg1 main_v26
  let main_cst_3 : FVec F S_ .f32 := constant S_ .f32 0x40000000#32
  let main_v28 : FVec F S4x4096x4096 .f32 := broadcastInDim S4x4096x4096 ![] bcast_S_S4x4096x4096 main_cst_3
  let main_v29 : FVec F S4x4096x4096 .f32 := mulf main_v28 main_v27
  let main_v30 : FVec F S4x4096x4096 .f32 := subf main_v25 main_v29
  let main_cst_4 : FVec F S_ .f32 := constant S_ .f32 0x2B8CBCCC#32
  let main_v31 : FVec F S4x4096x4096 .f32 := broadcastInDim S4x4096x4096 ![] bcast_S_S4x4096x4096 main_cst_4
  let main_v32 : FVec F S4x4096x4096 .f32 := maximumf main_v30 main_v31
  let main_v33 : FVec F S4x4096x4096 .f32 := Host.sqrt main_v32
  let main_v34 : FVec F S4x4096x4096 .f32 := Host.negf main_v33
  let main_values_5 : FVec F S4x4096x10 .f32 := (fun x => (Host.topK S4x4096x10 2 (FloatOps.cmpfTotal .gt) x sliceFits_S4x4096x4096_S4x4096x10).1) main_v34
  let main_indices_6 : IVec S4x4096x10 32 := (fun x => (Host.topK S4x4096x10 2 (FloatOps.cmpfTotal .gt) x sliceFits_S4x4096x4096_S4x4096x10).2) main_v34
  let main_v35 : FVec F S4x4096x9 .f32 := (extractStridedSlice S4x4096x9 ![0, 0, 0] · slices_S4x4096x10_S4x4096x9_0_0_0) main_values_5
  let main_v36 : FVec F S4x4096x9 .f32 := (extractStridedSlice S4x4096x9 ![0, 0, 1] · slices_S4x4096x10_S4x4096x9_0_0_1) main_values_5
  let main_v37 : IVec S4x4096x9 1 := cmpf .ogt main_v35 main_v36
  fn_part2 (F := F) main_v18 main_v37

def fn {F : FTy → Type} [FloatOps F] (main_arg0 : FVec F S4x4096x3 .f32) (main_arg1 : FVec F S4x4096x3 .f32) : IVec S4x4096x9 1 :=
  let main_v0 : FVec F S4x4096x3 .f32 := mulf main_arg0 main_arg0
  let main_cst : FVec F S_ .f32 := constant S_ .f32 0x00000000#32
  let main_v1 : FVec F S4x4096 .f32 := (fun x v => Host.reduceAdd x v reducesTo_S4x4096x3_S4x4096_d2 h_S_) main_v0 main_cst
  let main_v2 : FVec F S4x4096x1 .f32 := broadcastInDim S4x4096x1 ![0, 1] bcast_S4x4096_S4x4096x1_0_1 main_v1
  let main_v3 : FVec F S4x1x4096 .f32 := broadcastInDim S4x1x4096 ![0, 2] bcast_S4x4096_S4x1x4096_0_2 main_v1
  let main_v4 : FVec F S4x4096x4096 .f32 := broadcastInDim S4x4096x4096 ![0, 1, 2] bcast_S4x4096x1_S4x4096x4096_0_1_2 main_v2
  let main_v5 : FVec F S4x4096x4096 .f32 := broadcastInDim S4x4096x4096 ![0, 1, 2] bcast_S4x1x4096_S4x4096x4096_0_1_2 main_v3
  let main_v6 : FVec F S4x4096x4096 .f32 := addf main_v4 main_v5
  let main_v7 : FVec F S4x3x4096 .f32 := (transpose S4x3x4096 [0, 2, 1] · transposes_S4x4096x3_S4x3x4096_0_2_1) main_arg0
  let main_v8 : FVec F S4x4096x4096 .f32 := (fun l r => Host.dotGeneral dot_S4x4096x3_S4x3x4096_S4x4096x4096_2_1_1_2_0_0 none l r) main_arg0 main_v7
  let main_cst_0 : FVec F S_ .f32 := constant S_ .f32 0x40000000#32
  let main_v9 : FVec F S4x4096x4096 .f32 := broadcastInDim S4x4096x4096 ![] bcast_S_S4x4096x4096 main_cst_0
  let main_v10 : FVec F S4x4096x4096 .f32 := mulf main_v9 main_v8
  let main_v11 : FVec F S4x4096x4096 .f32 := subf main_v6 main_v10
  let main_cst_1 : FVec F S_ .f32 := constant S_ .f32 0x2B8CBCCC#32
  let main_v12 : FVec F S4x4096x4096 .f32 := broadcastInDim S4x4096x4096 ![] bcast_S_S4x4096x4096 main_cst_1
  let main_v13 : FVec F S4x4096x4096 .f32 := maximumf main_v11 main_v12
  let main_v14 : FVec F S4x4096x4096 .f32 := Host.sqrt main_v13
  let main_v15 : FVec F S4x4096x4096 .f32 := Host.negf main_v14
  let main_values : FVec F S4x4096x10 .f32 := (fun x => (Host.topK S4x4096x10 2 (FloatOps.cmpfTotal .gt) x sliceFits_S4x4096x4096_S4x4096x10).1) main_v15
  let main_indices : IVec S4x4096x10 32 := (fun x => (Host.topK S4x4096x10 2 (FloatOps.cmpfTotal .gt) x sliceFits_S4x4096x4096_S4x4096x10).2) main_v15
  let main_v16 : FVec F S4x4096x9 .f32 := (extractStridedSlice S4x4096x9 ![0, 0, 0] · slices_S4x4096x10_S4x4096x9_0_0_0) main_values
  let main_v17 : FVec F S4x4096x9 .f32 := (extractStridedSlice S4x4096x9 ![0, 0, 1] · slices_S4x4096x10_S4x4096x9_0_0_1) main_values
  let main_v18 : IVec S4x4096x9 1 := cmpf .ogt main_v16 main_v17
  fn_part1 (F := F) main_arg1 main_v18
-- ==== Kernel.lean ====
abbrev S4x4096x3 : Shape := ⟨3, ![4, 4096, 3]⟩
abbrev S_ : Shape := ⟨0, ![]⟩
abbrev S4x4096x1 : Shape := ⟨3, ![4, 4096, 1]⟩
abbrev S4x4096x4 : Shape := ⟨3, ![4, 4096, 4]⟩
abbrev S4x3x4096 : Shape := ⟨3, ![4, 3, 4096]⟩
abbrev S4x1x128 : Shape := ⟨3, ![4, 1, 128]⟩
abbrev S1x4096x4 : Shape := ⟨3, ![1, 4096, 4]⟩
abbrev S1x3x4096 : Shape := ⟨3, ![1, 3, 4096]⟩
abbrev S1x1x128 : Shape := ⟨3, ![1, 1, 128]⟩
abbrev S256x4096 : Shape := ⟨2, ![256, 4096]⟩
abbrev S4096x4 : Shape := ⟨2, ![4096, 4]⟩
abbrev S3x4096 : Shape := ⟨2, ![3, 4096]⟩
abbrev S1x256x3 : Shape := ⟨3, ![1, 256, 3]⟩
abbrev S256x3 : Shape := ⟨2, ![256, 3]⟩
abbrev S256 : Shape := ⟨1, ![256]⟩
abbrev S256x1 : Shape := ⟨2, ![256, 1]⟩
abbrev S4096 : Shape := ⟨1, ![4096]⟩
abbrev S1x4096 : Shape := ⟨2, ![1, 4096]⟩
abbrev S256x4 : Shape := ⟨2, ![256, 4]⟩
abbrev S1 : Shape := ⟨1, ![1]⟩
abbrev S1x1 : Shape := ⟨2, ![1, 1]⟩
abbrev S1x128 : Shape := ⟨2, ![1, 128]⟩
abbrev S4x128 : Shape := ⟨2, ![4, 128]⟩
abbrev S128 : Shape := ⟨1, ![128]⟩

abbrev nBuf : Space → Nat
  | .hbm => 36
  | .vmem => 10
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S_, .f32⟩
  | .hbm, ⟨3, _⟩ => ⟨S4x4096x1, .f32⟩
  | .hbm, ⟨4, _⟩ => ⟨S4x4096x4, .f32⟩
  | .hbm, ⟨5, _⟩ => ⟨S4x4096x4, .f32⟩
  | .hbm, ⟨6, _⟩ => ⟨S4x3x4096, .f32⟩
  | .hbm, ⟨7, _⟩ => ⟨S4x3x4096, .f32⟩
  | .hbm, ⟨8, _⟩ => ⟨S4x1x128, .f32⟩
  | .hbm, ⟨9, _⟩ => ⟨S4x128, .f32⟩
  | .hbm, ⟨10, _⟩ => ⟨S_, .f32⟩
  | .hbm, ⟨11, _⟩ => ⟨S128, .f32⟩
  | .hbm, ⟨12, _⟩ => ⟨S1, .f32⟩
  | .hbm, ⟨13, _⟩ => ⟨S_, .f32⟩
  | .hbm, ⟨14, _⟩ => ⟨S1, .f32⟩
  | .hbm, ⟨15, _⟩ => ⟨S_, .f32⟩
  | .hbm, ⟨16, _⟩ => ⟨S1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .local _ .vmem, ⟨0, _⟩ => ⟨S1x4096x4, .f32⟩
  | .local _ .vmem, ⟨1, _⟩ => ⟨S1x4096x4, .f32⟩
  | .local _ .vmem, ⟨2, _⟩ => ⟨S1x3x4096, .f32⟩
  | .local _ .vmem, ⟨3, _⟩ => ⟨S1x3x4096, .f32⟩
  | .local _ .vmem, ⟨4, _⟩ => ⟨S1x4096x4, .f32⟩
  | .local _ .vmem, ⟨5, _⟩ => ⟨S1x4096x4, .f32⟩
  | .local _ .vmem, ⟨6, _⟩ => ⟨S1x3x4096, .f32⟩
  | .local _ .vmem, ⟨7, _⟩ => ⟨S1x3x4096, .f32⟩
  | .local _ .vmem, ⟨8, _⟩ => ⟨S1x1x128, .f32⟩
  | .local _ .vmem, ⟨9, _⟩ => ⟨S1x1x128, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_cst_8 : Ref sig .tc := ⟨.hbm, 34, rfl⟩
abbrev main_v23 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def k0_off1 (i : grid0.Coords) : Fin 3 → Nat :=
  let c0_6 : Index := 0#32
  let arg1 : BitVec 32 := BitVec.ofNat 32 (i 1).val
  let c256_i32 : BitVec 32 := 256#32
  let v3 : BitVec 32 := Scalar.muli arg1 c256_i32
  let v12 : Index := Scalar.indexCast v3
  let c0_7 : Index := 0#32
  ![0, v12.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x3x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== KernelIdeal.lean ====
variable {F : FTy → Type} [FloatOps F] [Named F]
def κ : String → Option EReal := fun
  | "big" => some ⊤
  | _ => none
-- ==== ReferenceIdeal.lean ====
abbrev S4x4096x3 : Shape := ⟨3, ![4, 4096, 3]⟩
abbrev S_ : Shape := ⟨0, ![]⟩
abbrev S4x4096 : Shape := ⟨2, ![4, 4096]⟩
abbrev S4x4096x1 : Shape := ⟨3, ![4, 4096, 1]⟩
abbrev S4x1x4096 : Shape := ⟨3, ![4, 1, 4096]⟩
abbrev S4x4096x4096 : Shape := ⟨3, ![4, 4096, 4096]⟩
abbrev S4x3x4096 : Shape := ⟨3, ![4, 3, 4096]⟩
abbrev S4x4096x9 : Shape := ⟨3, ![4, 4096, 9]⟩
abbrev S4x4096x8 : Shape := ⟨3, ![4, 4096, 8]⟩
abbrev S4x4096x8x1 : Shape := ⟨4, ![4, 4096, 8, 1]⟩
abbrev S1 : Shape := ⟨1, ![1]⟩
abbrev S1x1x1x1 : Shape := ⟨4, ![1, 1, 1, 1]⟩
abbrev S4 : Shape := ⟨1, ![4]⟩
abbrev S4x4096x8x3 : Shape := ⟨4, ![4, 4096, 8, 3]⟩
abbrev S4x4096x1x3 : Shape := ⟨4, ![4, 4096, 1, 3]⟩
abbrev S4x4096x3x3 : Shape := ⟨4, ![4, 4096, 3, 3]⟩

abbrev nBuf : Space → Nat
  | .hbm => 192
  | .vmem => 0
  | .smem => 0
  | _ => 0

abbrev hbmTy0_0 (i : Nat) : BufTy := match i % 128 with
  | 0 => ⟨S4x4096x3, .f32⟩
  | 1 => ⟨S4x4096x3, .f32⟩
  | 2 => ⟨S4x4096x3, .f32⟩
  | 3 => ⟨S_, .f32⟩
  | 4 => ⟨S4x4096, .f32⟩
  | 5 => ⟨S4x4096x1, .f32⟩
  | 6 => ⟨S4x1x4096, .f32⟩
  | 7 => ⟨S4x4096x4096, .f32⟩
  | 8 => ⟨S4x4096x4096, .f32⟩
  | 9 => ⟨S4x4096x4096, .f32⟩
  | 10 => ⟨S4x3x4096, .f32⟩
  | 11 => ⟨S4x4096x4096, .f32⟩
  | 12 => ⟨S_, .f32⟩
  | 13 => ⟨S4x4096x4096, .f32⟩
  | 14 => ⟨S4x4096x4096, .f32⟩
  | 15 => ⟨S4x4096x4096, .f32⟩
  | 16 => ⟨S_, .f32⟩
  | 17 => ⟨S4x4096x4096, .f32⟩
  | 18 => ⟨S4x4096x4096, .f32⟩
  | 19 => ⟨S4x4096x4096, .f32⟩
  | 20 => ⟨S4x4096x4096, .f32⟩
  | 21 => ⟨S4x4096x9, .f32⟩
  | 22 => ⟨S4x4096x9, .i32⟩
  | 23 => ⟨S4x4096x8, .i32⟩
  | 24 => ⟨S4x4096x3, .f32⟩
  | 25 => ⟨S_, .f32⟩
  | 26 => ⟨S4x4096, .f32⟩
  | 27 => ⟨S4x4096x1, .f32⟩
  | 28 => ⟨S4x1x4096, .f32⟩
  | 29 => ⟨S4x4096x4096, .f32⟩
  | 30 => ⟨S4x4096x4096, .f32⟩
  | 31 => ⟨S4x4096x4096, .f32⟩
  | 32 => ⟨S4x3x4096, .f32⟩
  | 33 => ⟨S4x4096x4096, .f32⟩
  | 34 => ⟨S_, .f32⟩
  | 35 => ⟨S4x4096x4096, .f32⟩
  | 36 => ⟨S4x4096x4096, .f32⟩
  | 37 => ⟨S4x4096x4096, .f32⟩
  | 38 => ⟨S_, .f32⟩
  | 39 => ⟨S4x4096x4096, .f32⟩
  | 40 => ⟨S4x4096x4096, .f32⟩
  | 41 => ⟨S4x4096x4096, .f32⟩
  | 42 => ⟨S4x4096x4096, .f32⟩
  | 43 => ⟨S4x4096x9, .f32⟩
  | 44 => ⟨S4x4096x9, .i32⟩
  | 45 => ⟨S4x4096x8, .i32⟩
  | 46 => ⟨S_, .i32⟩
  | 47 => ⟨S4x4096x8, .i32⟩
  | 48 => ⟨S4x4096x8, .i1⟩
  | 49 => ⟨S_, .i32⟩
  | 50 => ⟨S4x4096x8, .i32⟩
  | 51 => ⟨S4x4096x8, .i32⟩
  | 52 => ⟨S4x4096x8, .i32⟩
  | 53 => ⟨S4x4096x8x1, .i32⟩
  | 54 => ⟨S1, .i32⟩
  | 55 => ⟨S_, .i32⟩
  | 56 => ⟨S4x4096x8x1, .i32⟩
  | 57 => ⟨S4x4096x8x1, .i1⟩
  | 58 => ⟨S1x1x1x1, .i32⟩
  | 59 => ⟨S4x4096x8x1, .i32⟩
  | 60 => ⟨S4x4096x8x1, .i1⟩
  | 61 => ⟨S4x4096x8x1, .i1⟩
  | 62 => ⟨S_, .i1⟩
  | 63 => ⟨S4x4096x8, .i1⟩
  | 64 => ⟨S4x4096x8, .f32⟩
  | 65 => ⟨S_, .f32⟩
  | 66 => ⟨S4x4096x8, .f32⟩
  | 67 => ⟨S4x4096x8, .f32⟩
  | 68 => ⟨S_, .f32⟩
  | 69 => ⟨S4x4096, .f32⟩
  | 70 => ⟨S_, .f32⟩
  | 71 => ⟨S4x4096, .f32⟩
  | 72 => ⟨S4x4096, .f32⟩
  | 73 => ⟨S_, .i32⟩
  | 74 => ⟨S4x4096x8, .i32⟩
  | 75 => ⟨S4x4096x8, .i1⟩
  | 76 => ⟨S_, .i32⟩
  | 77 => ⟨S4x4096x8, .i32⟩
  | 78 => ⟨S4x4096x8, .i32⟩
  | 79 => ⟨S4x4096x8, .i32⟩
  | 80 => ⟨S4x4096x8x1, .i32⟩
  | 81 => ⟨S1, .i32⟩
  | 82 => ⟨S_, .i32⟩
  | 83 => ⟨S4x4096x8x1, .i32⟩
  | 84 => ⟨S4x4096x8x1, .i1⟩
  | 85 => ⟨S1x1x1x1, .i32⟩
  | 86 => ⟨S4x4096x8x1, .i32⟩
  | 87 => ⟨S4x4096x8x1, .i1⟩
  | 88 => ⟨S4x4096x8x1, .i1⟩
  | 89 => ⟨S_, .i1⟩
  | 90 => ⟨S4x4096x8, .i1⟩
  | 91 => ⟨S4x4096x8, .f32⟩
  | 92 => ⟨S_, .f32⟩
  | 93 => ⟨S4x4096x8, .f32⟩
  | 94 => ⟨S4x4096x8, .f32⟩
  | 95 => ⟨S_, .f32⟩
  | 96 => ⟨S4x4096, .f32⟩
  | 97 => ⟨S_, .f32⟩
  | 98 => ⟨S4x4096, .f32⟩
  | 99 => ⟨S4x4096, .f32⟩
  | 100 => ⟨S4x4096, .f32⟩
  | 101 => ⟨S4x4096, .f32⟩
  | 102 => ⟨S_, .f32⟩
  | 103 => ⟨S4, .f32⟩
  | 104 => ⟨S_, .f32⟩
  | 105 => ⟨S4, .f32⟩
  | 106 => ⟨S4, .f32⟩
  | 107 => ⟨S_, .i32⟩
  | 108 => ⟨S4x4096x8, .i32⟩
  | 109 => ⟨S4x4096x8, .i1⟩
  | 110 => ⟨S_, .i32⟩
  | 111 => ⟨S4x4096x8, .i32⟩
  | 112 => ⟨S4x4096x8, .i32⟩
  | 113 => ⟨S4x4096x8, .i32⟩
  | 114 => ⟨S4x4096x8x1, .i32⟩
  | 115 => ⟨S4x4096x8x3, .f32⟩
  | 116 => ⟨S4x4096x1x3, .f32⟩
  | 117 => ⟨S4x4096x8x3, .f32⟩
  | 118 => ⟨S4x4096x8x3, .f32⟩
  | 119 => ⟨S4x4096x8x3, .f32⟩
  | 120 => ⟨S_, .f32⟩
  | 121 => ⟨S4x4096x8, .f32⟩
  | 122 => ⟨S4x4096x8x1, .f32⟩
  | 123 => ⟨S4x4096x8x1, .f32⟩
  | 124 => ⟨S_, .f32⟩
  | 125 => ⟨S4x4096x8x1, .f32⟩
  | 126 => ⟨S4x4096x8x1, .f32⟩
  | 127 => ⟨S4x4096x8x3, .f32⟩
  | _ => ⟨S4x4096x3, .f32⟩

abbrev hbmTy0_1 (i : Nat) : BufTy := match i % 128 with
  | 0 => ⟨S4x4096x8x3, .f32⟩
  | 1 => ⟨S_, .i32⟩
  | 2 => ⟨S4x4096x8, .i32⟩
  | 3 => ⟨S4x4096x8, .i1⟩
  | 4 => ⟨S_, .i32⟩
  | 5 => ⟨S4x4096x8, .i32⟩
  | 6 => ⟨S4x4096x8, .i32⟩
  | 7 => ⟨S4x4096x8, .i32⟩
  | 8 => ⟨S4x4096x8x1, .i32⟩
  | 9 => ⟨S4x4096x8x3, .f32⟩
  | 10 => ⟨S4x4096x1x3, .f32⟩
  | 11 => ⟨S4x4096x8x3, .f32⟩
  | 12 => ⟨S4x4096x8x3, .f32⟩
  | 13 => ⟨S4x4096x8x3, .f32⟩
  | 14 => ⟨S_, .f32⟩
  | 15 => ⟨S4x4096x8, .f32⟩
  | 16 => ⟨S4x4096x8x1, .f32⟩
  | 17 => ⟨S4x4096x8x1, .f32⟩
  | 18 => ⟨S_, .f32⟩
  | 19 => ⟨S4x4096x8x1, .f32⟩
  | 20 => ⟨S4x4096x8x1, .f32⟩
  | 21 => ⟨S4x4096x8x3, .f32⟩
  | 22 => ⟨S4x4096x8x3, .f32⟩
  | 23 => ⟨S4x4096x8x3, .f32⟩
  | 24 => ⟨S_, .f32⟩
  | 25 => ⟨S4x4096x8, .f32⟩
  | 26 => ⟨S_, .f32⟩
  | 27 => ⟨S4, .f32⟩
  | 28 => ⟨S_, .f32⟩
  | 29 => ⟨S4, .f32⟩
  | 30 => ⟨S4, .f32⟩
  | 31 => ⟨S_, .f32⟩
  | 32 => ⟨S4, .f32⟩
  | 33 => ⟨S4, .f32⟩
  | 34 => ⟨S4x4096x3x3, .f32⟩
  | 35 => ⟨S_, .f32⟩
  | 36 => ⟨S4x4096x3x3, .f32⟩
  | 37 => ⟨S4x4096x3x3, .f32⟩
  | 38 => ⟨S4x4096x3x3, .f32⟩
  | 39 => ⟨S_, .f32⟩
  | 40 => ⟨S4x4096x3x3, .f32⟩
  | 41 => ⟨S4x4096x3x3, .f32⟩
  | 42 => ⟨S4x4096x3x3, .f32⟩
  | 43 => ⟨S4x4096x3x3, .f32⟩
  | 44 => ⟨S_, .f32⟩
  | 45 => ⟨S4x4096, .f32⟩
  | 46 => ⟨S4x4096, .f32⟩
  | 47 => ⟨S_, .f32⟩
  | 48 => ⟨S4, .f32⟩
  | 49 => ⟨S_, .f32⟩
  | 50 => ⟨S4, .f32⟩
  | 51 => ⟨S4, .f32⟩
  | 52 => ⟨S_, .f32⟩
  | 53 => ⟨S4, .f32⟩
  | 54 => ⟨S4, .f32⟩
  | 55 => ⟨S4, .f32⟩
  | 56 => ⟨S_, .f32⟩
  | 57 => ⟨S4, .f32⟩
  | 58 => ⟨S4, .f32⟩
  | 59 => ⟨S4, .f32⟩
  | 60 => ⟨S_, .f32⟩
  | 61 => ⟨S_, .f32⟩
  | 62 => ⟨S_, .f32⟩
  | 63 => ⟨S_, .f32⟩
  | _ => ⟨S4x4096x3, .f32⟩

abbrev hbmTy (i : Nat) : BufTy := match i / 128 with
  | 0 => hbmTy0_0 i
  | 1 => hbmTy0_1 i
  | _ => ⟨S4x4096x3, .f32⟩

abbrev bufTy : (tb : Table) → Fin (tcTables nBuf tb) → BufTy
  | .hbm, ⟨i, _⟩ => hbmTy i
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_values : Ref sig .tc := ⟨.hbm, 21, rfl⟩
abbrev main_indices : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_values_5 : Ref sig .tc := ⟨.hbm, 43, rfl⟩
abbrev main_indices_6 : Ref sig .tc := ⟨.hbm, 44, rfl⟩
abbrev main_v33 : Ref sig .tc := ⟨.hbm, 45, rfl⟩
abbrev main_call0_c : Ref sig .tc := ⟨.hbm, 46, rfl⟩
abbrev main_call0_v0 : Ref sig .tc := ⟨.hbm, 47, rfl⟩
abbrev main_call0_v1 : Ref sig .tc := ⟨.hbm, 48, rfl⟩
abbrev main_call0_c_0 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_c_1 : Ref sig .tc := ⟨.hbm, 54, rfl⟩
abbrev main_call0_c_2 : Ref sig .tc := ⟨.hbm, 55, rfl⟩
abbrev main_call0_v6 : Ref sig .tc := ⟨.hbm, 56, rfl⟩
abbrev main_call0_v7 : Ref sig .tc := ⟨.hbm, 57, rfl⟩
abbrev main_call0_v8 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_c_3 : Ref sig .tc := ⟨.hbm, 62, rfl⟩
abbrev main_call0_v12 : Ref sig .tc := ⟨.hbm, 63, rfl⟩
abbrev main_call0_v13 : Ref sig .tc := ⟨.hbm, 64, rfl⟩
abbrev main_call0_cst : Ref sig .tc := ⟨.hbm, 65, rfl⟩
abbrev main_call0_v14 : Ref sig .tc := ⟨.hbm, 66, rfl⟩
abbrev main_v34 : Ref sig .tc := ⟨.hbm, 67, rfl⟩
abbrev main_cst_7 : Ref sig .tc := ⟨.hbm, 68, rfl⟩
abbrev main_v35 : Ref sig .tc := ⟨.hbm, 69, rfl⟩
abbrev main_cst_8 : Ref sig .tc := ⟨.hbm, 70, rfl⟩
abbrev main_v36 : Ref sig .tc := ⟨.hbm, 71, rfl⟩
abbrev main_v37 : Ref sig .tc := ⟨.hbm, 72, rfl⟩
abbrev main_call1_c : Ref sig .tc := ⟨.hbm, 73, rfl⟩
abbrev main_call1_v0 : Ref sig .tc := ⟨.hbm, 74, rfl⟩
abbrev main_call1_v1 : Ref sig .tc := ⟨.hbm, 75, rfl⟩
abbrev main_call1_c_0 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_c_1 : Ref sig .tc := ⟨.hbm, 81, rfl⟩
abbrev main_call1_c_2 : Ref sig .tc := ⟨.hbm, 82, rfl⟩
abbrev main_call1_v6 : Ref sig .tc := ⟨.hbm, 83, rfl⟩
abbrev main_call1_v7 : Ref sig .tc := ⟨.hbm, 84, rfl⟩
abbrev main_call1_v8 : Ref sig .tc := ⟨.hbm, 85, rfl⟩
abbrev main_call1_v9 : Ref sig .tc := ⟨.hbm, 86, rfl⟩
abbrev main_call1_v10 : Ref sig .tc := ⟨.hbm, 87, rfl⟩
abbrev main_call1_v11 : Ref sig .tc := ⟨.hbm, 88, rfl⟩
abbrev main_call1_c_3 : Ref sig .tc := ⟨.hbm, 89, rfl⟩
abbrev main_call1_v12 : Ref sig .tc := ⟨.hbm, 90, rfl⟩
abbrev main_call1_v13 : Ref sig .tc := ⟨.hbm, 91, rfl⟩
abbrev main_call1_cst : Ref sig .tc := ⟨.hbm, 92, rfl⟩
abbrev main_call1_v14 : Ref sig .tc := ⟨.hbm, 93, rfl⟩
abbrev main_v38 : Ref sig .tc := ⟨.hbm, 94, rfl⟩
abbrev main_cst_9 : Ref sig .tc := ⟨.hbm, 95, rfl⟩
abbrev main_v39 : Ref sig .tc := ⟨.hbm, 96, rfl⟩
abbrev main_cst_10 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_cst_11 : Ref sig .tc := ⟨.hbm, 102, rfl⟩
abbrev main_v44 : Ref sig .tc := ⟨.hbm, 103, rfl⟩
abbrev main_cst_12 : Ref sig .tc := ⟨.hbm, 104, rfl⟩
abbrev main_v45 : Ref sig .tc := ⟨.hbm, 105, rfl⟩
abbrev main_v46 : Ref sig .tc := ⟨.hbm, 106, rfl⟩
abbrev main_c : Ref sig .tc := ⟨.hbm, 107, rfl⟩
abbrev main_v47 : Ref sig .tc := ⟨.hbm, 108, rfl⟩
abbrev main_v48 : Ref sig .tc := ⟨.hbm, 109, rfl⟩
abbrev main_c_13 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v56 : Ref sig .tc := ⟨.hbm, 118, rfl⟩
abbrev main_call2_v0 : Ref sig .tc := ⟨.hbm, 119, rfl⟩
abbrev main_call2_cst : Ref sig .tc := ⟨.hbm, 120, rfl⟩
abbrev main_call2_v1 : Ref sig .tc := ⟨.hbm, 121, rfl⟩
abbrev main_call2_v2 : Ref sig .tc := ⟨.hbm, 122, rfl⟩
abbrev main_v57 : Ref sig .tc := ⟨.hbm, 123, rfl⟩
abbrev main_cst_14 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩
abbrev main_c_15 : Ref sig .tc := ⟨.hbm, 129, rfl⟩
abbrev main_v62 : Ref sig .tc := ⟨.hbm, 130, rfl⟩
abbrev main_v63 : Ref sig .tc := ⟨.hbm, 131, rfl⟩
abbrev main_c_16 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_call3_v0 : Ref sig .tc := ⟨.hbm, 141, rfl⟩
abbrev main_call3_cst : Ref sig .tc := ⟨.hbm, 142, rfl⟩
abbrev main_call3_v1 : Ref sig .tc := ⟨.hbm, 143, rfl⟩
abbrev main_call3_v2 : Ref sig .tc := ⟨.hbm, 144, rfl⟩
abbrev main_v72 : Ref sig .tc := ⟨.hbm, 145, rfl⟩
abbrev main_cst_17 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_cst_18 : Ref sig .tc := ⟨.hbm, 152, rfl⟩
abbrev main_v78 : Ref sig .tc := ⟨.hbm, 153, rfl⟩
abbrev main_cst_19 : Ref sig .tc := ⟨.hbm, 154, rfl⟩
abbrev main_v79 : Ref sig .tc := ⟨.hbm, 155, rfl⟩
abbrev main_cst_20 : Ref sig .tc := ⟨.hbm, 156, rfl⟩
abbrev main_v80 : Ref sig .tc := ⟨.hbm, 157, rfl⟩
abbrev main_v81 : Ref sig .tc := ⟨.hbm, 158, rfl⟩
abbrev main_cst_21 : Ref sig .tc := ⟨.hbm, 159, rfl⟩
abbrev main_v82 : Ref sig .tc := ⟨.hbm, 160, rfl⟩
abbrev main_v83 : Ref sig .tc := ⟨.hbm, 161, rfl⟩
abbrev main_v84 : Ref sig .tc := ⟨.hbm, 162, rfl⟩
abbrev main_cst_22 : Ref sig .tc := ⟨.hbm, 163, rfl⟩
abbrev main_v85 : Ref sig .tc := ⟨.hbm, 164, rfl⟩
abbrev main_v86 : Ref sig .tc := ⟨.hbm, 165, rfl⟩
abbrev main_v87 : Ref sig .tc := ⟨.hbm, 166, rfl⟩
abbrev main_cst_23 : Ref sig .tc := ⟨.hbm, 167, rfl⟩
abbrev main_v88 : Ref sig .tc := ⟨.hbm, 168, rfl⟩
abbrev main_v89 : Ref sig .tc := ⟨.hbm, 169, rfl⟩
abbrev main_v90 : Ref sig .tc := ⟨.hbm, 170, rfl⟩
abbrev main_v91 : Ref sig .tc := ⟨.hbm, 171, rfl⟩
abbrev main_cst_24 : Ref sig .tc := ⟨.hbm, 172, rfl⟩
abbrev main_v92 : Ref sig .tc := ⟨.hbm, 173, rfl⟩
abbrev main_v93 : Ref sig .tc := ⟨.hbm, 174, rfl⟩
abbrev main_cst_25 : Ref sig .tc := ⟨.hbm, 175, rfl⟩
abbrev main_v94 : Ref sig .tc := ⟨.hbm, 176, rfl⟩
abbrev main_cst_26 : Ref sig .tc := ⟨.hbm, 177, rfl⟩
abbrev main_v95 : Ref sig .tc := ⟨.hbm, 178, rfl⟩
abbrev main_v96 : Ref sig .tc := ⟨.hbm, 179, rfl⟩
abbrev main_cst_27 : Ref sig .tc := ⟨.hbm, 180, rfl⟩
abbrev main_v97 : Ref sig .tc := ⟨.hbm, 181, rfl⟩
abbrev main_v98 : Ref sig .tc := ⟨.hbm, 182, rfl⟩
abbrev main_v99 : Ref sig .tc := ⟨.hbm, 183, rfl⟩
abbrev main_cst_28 : Ref sig .tc := ⟨.hbm, 184, rfl⟩
abbrev main_v100 : Ref sig .tc := ⟨.hbm, 185, rfl⟩
abbrev main_v101 : Ref sig .tc := ⟨.hbm, 186, rfl⟩
abbrev main_v102 : Ref sig .tc := ⟨.hbm, 187, rfl⟩
abbrev main_cst_29 : Ref sig .tc := ⟨.hbm, 188, rfl⟩
abbrev main_v103 : Ref sig .tc := ⟨.hbm, 189, rfl⟩
abbrev main_cst_30 : Ref sig .tc := ⟨.hbm, 190, rfl⟩
abbrev main_v104 : Ref sig .tc := ⟨.hbm, 191, rfl⟩

abbrev nD : Nat := 1
abbrev τ : Topo := Topo.v7x

variable {F : FTy → Type} [FloatOps F]
-- ==== Proof.KModel.lean ====
/- The kernel's block as named pieces: the squared distances with the diagonal at the top, one round of taking the
   nearest column left, the sums over the eight neighbours, and the three row sums packed into lanes 0, 1, 2; and that
   what a grid point leaves in the output's buffer is these pieces put together. -/
module

public import proofs.«01_k».proof.Proof.Gen.KernelIdeal.Frame
public import Idealize.ShloMosaic.Lib.Pipeline.Value
public import Idealize.ShloMosaic.Lib.Pipeline.ValueKit
public import Idealize.ShloMosaic.Lib.Tactic

@[expose] public section

noncomputable section

namespace Cert.KernelIdeal.Loss

open Idealize.ShloMosaic Idealize.ShloMosaic.TcCoe Idealize.SL.Sem
open Cert.KernelIdeal Cert.KernelIdeal.Gen

variable {F : FTy → Type} [FloatOps F] [Named F]

/-- The least entry of each row. -/
def rowMin0 (d : FVec F S256x4096 .f32) : FVec F S256 .f32 :=
  multiReduction .minimumf [1] S256 d 0x7F800000#32 reduces_S256x4096_S256 (.inl rfl) rfl
def rowMin (d : FVec F S256x4096 .f32) : FVec F S256x1 .f32 := shapeCast S256x1 (rowMin0 d) shapeCasts_S256_S256x1

/-- Where a row's least entry is. -/
def isMin (d : FVec F S256x4096 .f32) : IVec S256x4096 1 :=
  cmpf .oeq d (broadcastTo S256x4096 (rowMin d) broadcasts_S256x1_S256x4096)

def ones : FVec F S256x4096 .f32 := broadcast S256x4096 (Scalar.ofBits .f32 0x3F800000#32)
def zeros : FVec F S256x4096 .f32 := broadcast S256x4096 (Scalar.ofBits .f32 0x00000000#32)
def bigs : FVec F S256x4096 .f32 := broadcast S256x4096 (Named.named κ "big" 0x7149F2CA#32)

/-- One where a row's least entry is, zero elsewhere. -/
def hits (d : FVec F S256x4096 .f32) : FVec F S256x4096 .f32 := select (isMin d) ones zeros

/-- The entries with the least ones put to the top. -/
def next (d : FVec F S256x4096 .f32) : FVec F S256x4096 .f32 := addf d (mulf (hits d) bigs)

/-- The squared distances after `k` rounds. -/
def rounds (d : FVec F S256x4096 .f32) : ℕ → FVec F S256x4096 .f32
  | 0 => d
  | k + 1 => next (rounds d k)

/-- The distance at a row's least entry. -/
def distOf (d : FVec F S256x4096 .f32) : FVec F S256x1 .f32 :=
  sqrt (maximumf (rowMin d) (broadcast S256x1 (Scalar.ofBits .f32 0x2B8CBCCC#32)))
def dists (d : FVec F S256x4096 .f32) (k : ℕ) : FVec F S256x1 .f32 := distOf (rounds d k)

/-- The hit points' coordinates added up, and their number. -/
def gathered (xa : FVec F S4096x4 .f32) (d : FVec F S256x4096 .f32) : FVec F S256x4 .f32 :=
  matmul dot_S256x4096_S4096x4_S256x4_1_0_0_1_n_n none (hits d) xa (constant S256x4 .f32 0x00000000#32)
def gathered3 (xa : FVec F S4096x4 .f32) (d : FVec F S256x4096 .f32) : FVec F S256x3 .f32 :=
  extractStridedSlice S256x3 ![0, 0] (gathered xa d) slices_S256x4_o0_0_S256x3
def gathered1 (xa : FVec F S4096x4 .f32) (d : FVec F S256x4096 .f32) : FVec F S256x1 .f32 :=
  extractStridedSlice S256x1 ![0, 3] (gathered xa d) slices_S256x4_o0_3_S256x1

/-- A column put beside itself. -/
def spread (v : FVec F S256x1 .f32) : FVec F S256x3 .f32 := broadcastTo S256x3 v broadcasts_S256x1_S256x3

/-- The mean of the hit points. -/
def nbrOf (xa : FVec F S4096x4 .f32) (d : FVec F S256x4096 .f32) : FVec F S256x3 .f32 :=
  mulf (gathered3 xa d) (spread (divf (broadcast S256x1 (Scalar.ofBits .f32 0x3F800000#32)) (gathered1 xa d)))

/-- The vectors to the neighbours. -/
def vecs (xa : FVec F S4096x4 .f32) (xb : FVec F S256x3 .f32) (D : FVec F S256x4096 .f32) (k : ℕ) : FVec F S256x3 .f32 :=
  subf (nbrOf xa (rounds D k)) xb

/-- The zero column. -/
def zcol : FVec F S256x1 .f32 := broadcast S256x1 (Scalar.ofBits .f32 0x00000000#32)

def sq (v : FVec F S256x3 .f32) : FVec F S256x3 .f32 := mulf v v

/-- The rows' entries added up. -/
def rowSum (v : FVec F S256x3 .f32) : FVec F S256x1 .f32 :=
  shapeCast S256x1 (multiReduction .add [1] S256 v 0x00000000#32 reduces_S256x3_S256 (.inl rfl) rfl) shapeCasts_S256_S256x1

/-- A row's length, kept off zero. -/
def lenOf (v : FVec F S256x3 .f32) : FVec F S256x1 .f32 :=
  maximumf (sqrt (rowSum (sq v))) (broadcast S256x1 (Scalar.ofBits .f32 0x2B8CBCCC#32))
def unitOf (v : FVec F S256x3 .f32) : FVec F S256x3 .f32 := divf v (spread (lenOf v))

/-- The cosine of two rows. -/
def cosOf (p t : FVec F S256x3 .f32) : FVec F S256x1 .f32 := rowSum (mulf (unitOf p) (unitOf t))
def cosines (p t : ℕ → FVec F S256x3 .f32) (k : ℕ) : FVec F S256x1 .f32 := cosOf (p k) (t k)

/-- Column `a`. -/
def col : Fin 3 → FVec F S256x3 .f32 → FVec F S256x1 .f32
  | 0, v => extractStridedSlice S256x1 ![0, 0] v slices_S256x3_o0_0_S256x1
  | 1, v => extractStridedSlice S256x1 ![0, 1] v slices_S256x3_o0_1_S256x1
  | 2, v => extractStridedSlice S256x1 ![0, 2] v slices_S256x3_o0_2_S256x1

/-- Columns `a` and `b` of the `k`-th vector multiplied. -/
def prods (v : ℕ → FVec F S256x3 .f32) (a b : Fin 3) (k : ℕ) : FVec F S256x1 .f32 := mulf (col a (v k)) (col b (v k))

/-- Columns added up from zero, first to last. -/
def sumTo (f : ℕ → FVec F S256x1 .f32) : ℕ → FVec F S256x1 .f32
  | 0 => zcol
  | k + 1 => addf (sumTo f k) (f k)

/-- A column added up. -/
def total (v : FVec F S256x1 .f32) : FVec F S1x1 .f32 :=
  shapeCast S1x1 (multiReduction .add [0] S1 v 0x00000000#32 reduces_S256x1_S1 (.inl rfl) rfl) shapeCasts_S1_S1x1

/-- An eighth of a column. -/
def eighth (v : FVec F S256x1 .f32) : FVec F S256x1 .f32 := mulf v (broadcast S256x1 (Scalar.ofBits .f32 0x3E000000#32))

/-- The squared difference of two columns. -/
def sqDiff (x y : FVec F S256x1 .f32) : FVec F S256x1 .f32 := mulf (subf x y) (subf x y)

/-- The squared difference of an entry of the two covariances, not yet divided. -/
def covDiff (p t : ℕ → FVec F S256x3 .f32) (a b : Fin 3) : FVec F S256x1 .f32 :=
  sqDiff (sumTo (prods p a b) 8) (sumTo (prods t a b) 8)

/-- The norm of the difference of the two covariances, from the six different entries. -/
def covNorm (p t : ℕ → FVec F S256x3 .f32) : FVec F S256x1 .f32 :=
  eighth (sqrt (addf (addf (addf (covDiff p t 0 0) (covDiff p t 1 1)) (covDiff p t 2 2))
    (mulf (broadcast S256x1 (Scalar.ofBits .f32 0x40000000#32))
      (addf (addf (covDiff p t 0 1) (covDiff p t 0 2)) (covDiff p t 1 2)))))

/-- The three row sums of a block. -/
def densTotal (D E : FVec F S256x4096 .f32) : FVec F S1x1 .f32 :=
  total (sqDiff (eighth (sumTo (dists D) 8)) (eighth (sumTo (dists E) 8)))
def simTotal (p t : ℕ → FVec F S256x3 .f32) : FVec F S1x1 .f32 := total (sumTo (cosines p t) 8)
def covTotal (p t : ℕ → FVec F S256x3 .f32) : FVec F S1x1 .f32 := total (covNorm p t)

/-- The points, and the block's rows of them. -/
def ptsOf (x : Vec F S1x4096x4 .f32) : FVec F S4096x4 .f32 := shapeCast S4096x4 x shapeCasts_S1x4096x4_S4096x4
def rowsOf (v : Vec F S1x256x3 .f32) : FVec F S256x3 .f32 := shapeCast S256x3 v shapeCasts_S1x256x3_S256x3

/-- The block's squared distances, the diagonal at the top. -/
def sqDists (i : grid0.Coords) (xT : Vec F S1x3x4096 .f32) (v : Vec F S1x256x3 .f32) : FVec F S256x4096 .f32 :=
  k0_pay6 i xT v

/-- What a point leaves in the output's buffer, over what it found there. -/
def blockOut (D E : FVec F S256x4096 .f32) (p t : ℕ → FVec F S256x3 .f32) (xo : Vec F S1x1x128 .f32) : Vec F S1x1x128 .f32 :=
  k0_pay1 (densTotal D E) (simTotal p t) (covTotal p t) (iota .tc S1x128 32 [1] iota_S1x128_d1_w32) k0_pay247 xo

/-! The body's values, one lemma each: a value the body reads or hands on is the piece of the same meaning. -/

theorem pay4 (x : Vec F S1x4096x4 .f32) : k0_pay4 x = ptsOf x := rfl
theorem pay49 (x : Vec F S1x4096x4 .f32) : k0_pay49 x = ptsOf x := rfl
theorem pay5 (v : Vec F S1x256x3 .f32) : k0_pay5 v = rowsOf v := rfl
theorem pay50 (v : Vec F S1x256x3 .f32) : k0_pay50 v = rowsOf v := rfl
theorem pay6 (i : grid0.Coords) (xT : Vec F S1x3x4096 .f32) (v : Vec F S1x256x3 .f32) :
    k0_pay6 i xT v = rounds (sqDists i xT v) 0 := rfl
theorem pay7 (i : grid0.Coords) (xT : Vec F S1x3x4096 .f32) (v : Vec F S1x256x3 .f32) :
    k0_pay7 i xT v = rowMin (rounds (sqDists i xT v) 0) := rfl
theorem pay8 (i : grid0.Coords) (xT : Vec F S1x3x4096 .f32) (v : Vec F S1x256x3 .f32) :
    k0_pay8 i xT v = hits (rounds (sqDists i xT v) 0) := rfl
theorem pay51 (i : grid0.Coords) (xT : Vec F S1x3x4096 .f32) (v : Vec F S1x256x3 .f32) :
    k0_pay51 (iota .tc S256x4096 32 [1] iota_S256x4096_d1_w32) (k0_pay3 i) xT v = rounds (sqDists i xT v) 0 := rfl
theorem pay52 (i : grid0.Coords) (xT : Vec F S1x3x4096 .f32) (v : Vec F S1x256x3 .f32) :
    k0_pay52 (iota .tc S256x4096 32 [1] iota_S256x4096_d1_w32) (k0_pay3 i) xT v = rowMin0 (rounds (sqDists i xT v) 0) := rfl
theorem pay9 (D : FVec F S256x4096 .f32) : k0_pay9 (F := F) (rounds D 0) (hits (rounds D 0)) = rounds D 1 := rfl
theorem pay10 (D : FVec F S256x4096 .f32) : k0_pay10 (F := F) (rowMin (rounds D 0)) = distOf (rounds D 0) := rfl
theorem pay11 (xa : FVec F S4096x4 .f32) (D : FVec F S256x4096 .f32) : k0_pay11 (F := F) xa (hits (rounds D 0)) = nbrOf xa (rounds D 0) := rfl
theorem pay12 (D : FVec F S256x4096 .f32) : k0_pay12 (F := F) (rounds D 0) (hits (rounds D 0)) = rowMin (rounds D 1) := rfl
theorem pay13 (D : FVec F S256x4096 .f32) : k0_pay13 (F := F) (rounds D 0) (hits (rounds D 0)) = hits (rounds D 1) := rfl
theorem pay14 (D : FVec F S256x4096 .f32) : k0_pay14 (F := F) (rounds D 0) (hits (rounds D 0)) = rounds D 2 := rfl
theorem pay15 (D : FVec F S256x4096 .f32) : k0_pay15 (F := F) (rounds D 0) (hits (rounds D 0)) = distOf (rounds D 1) := rfl
theorem pay16 (xa : FVec F S4096x4 .f32) (D : FVec F S256x4096 .f32) : k0_pay16 (F := F) xa (rounds D 0) (hits (rounds D 0)) = nbrOf xa (rounds D 1) := rfl
theorem pay17 (D : FVec F S256x4096 .f32) : k0_pay17 (F := F) (rounds D 0) (hits (rounds D 0)) = rowMin (rounds D 2) := rfl
theorem pay18 (D : FVec F S256x4096 .f32) : k0_pay18 (F := F) (rounds D 0) (hits (rounds D 0)) = hits (rounds D 2) := rfl
theorem pay19 (xa : FVec F S4096x4 .f32) (D : FVec F S256x4096 .f32) : k0_pay19 (F := F) xa (rounds D 0) (hits (rounds D 0)) = gathered xa (rounds D 2) := rfl
theorem pay20 (D : FVec F S256x4096 .f32) : k0_pay20 (F := F) (rounds D 0) (hits (rounds D 0)) = rounds D 3 := rfl
theorem pay21 (D : FVec F S256x4096 .f32) : k0_pay21 (F := F) (rowMin (rounds D 2)) = distOf (rounds D 2) := rfl
theorem pay22 (xa : FVec F S4096x4 .f32) (D : FVec F S256x4096 .f32) : k0_pay22 (F := F) (gathered xa (rounds D 2)) = nbrOf xa (rounds D 2) := rfl
theorem pay23 (D : FVec F S256x4096 .f32) : k0_pay23 (F := F) (rounds D 3) = rowMin (rounds D 3) := rfl
theorem pay24 (D : FVec F S256x4096 .f32) : k0_pay24 (F := F) (rounds D 3) = hits (rounds D 3) := rfl
theorem pay25 (D : FVec F S256x4096 .f32) : k0_pay25 (F := F) (rounds D 3) = rounds D 4 := rfl
theorem pay26 (D : FVec F S256x4096 .f32) : k0_pay26 (F := F) (rounds D 3) = distOf (rounds D 3) := rfl
theorem pay27 (xa : FVec F S4096x4 .f32) (D : FVec F S256x4096 .f32) : k0_pay27 (F := F) xa (rounds D 3) = nbrOf xa (rounds D 3) := rfl
theorem pay28 (D : FVec F S256x4096 .f32) : k0_pay28 (F := F) (rounds D 3) = rowMin (rounds D 4) := rfl
theorem pay29 (D : FVec F S256x4096 .f32) : k0_pay29 (F := F) (rounds D 3) = hits (rounds D 4) := rfl
theorem pay30 (xa : FVec F S4096x4 .f32) (D : FVec F S256x4096 .f32) : k0_pay30 (F := F) xa (rounds D 3) = gathered xa (rounds D 4) := rfl
theorem pay31 (D : FVec F S256x4096 .f32) : k0_pay31 (F := F) (rounds D 3) = rounds D 5 := rfl
theorem pay32 (D : FVec F S256x4096 .f32) : k0_pay32 (F := F) (rounds D 3) = distOf (rounds D 4) := rfl
theorem pay33 (xa : FVec F S4096x4 .f32) (D : FVec F S256x4096 .f32) : k0_pay33 (F := F) xa (rounds D 3) = gathered3 xa (rounds D 4) := rfl
theorem pay34 (xa : FVec F S4096x4 .f32) (D : FVec F S256x4096 .f32) : k0_pay34 (F := F) xa (rounds D 3) = gathered1 xa (rounds D 4) := rfl
theorem pay35 (xa : FVec F S4096x4 .f32) (D : FVec F S256x4096 .f32) : k0_pay35 (F := F) (gathered3 xa (rounds D 4)) (gathered1 xa (rounds D 4)) = nbrOf xa (rounds D 4) := rfl
theorem pay36 (D : FVec F S256x4096 .f32) : k0_pay36 (F := F) (rounds D 5) = rowMin (rounds D 5) := rfl
theorem pay37 (D : FVec F S256x4096 .f32) : k0_pay37 (F := F) (rounds D 5) = hits (rounds D 5) := rfl
theorem pay38 (D : FVec F S256x4096 .f32) : k0_pay38 (F := F) (rounds D 5) = rounds D 6 := rfl
theorem pay39 (D : FVec F S256x4096 .f32) : k0_pay39 (F := F) (rounds D 5) = distOf (rounds D 5) := rfl
theorem pay40 (xa : FVec F S4096x4 .f32) (D : FVec F S256x4096 .f32) : k0_pay40 (F := F) xa (rounds D 5) = nbrOf xa (rounds D 5) := rfl
theorem pay41 (D : FVec F S256x4096 .f32) : k0_pay41 (F := F) (rounds D 5) = rowMin (rounds D 6) := rfl
theorem pay42 (D : FVec F S256x4096 .f32) : k0_pay42 (F := F) (rounds D 5) = hits (rounds D 6) := rfl
theorem pay43 (D : FVec F S256x4096 .f32) : k0_pay43 (F := F) (rounds D 5) = rounds D 7 := rfl
theorem pay44 (D : FVec F S256x4096 .f32) : k0_pay44 (F := F) (rounds D 5) = distOf (rounds D 6) := rfl
theorem pay45 (xa : FVec F S4096x4 .f32) (D : FVec F S256x4096 .f32) : k0_pay45 (F := F) xa (rounds D 5) = nbrOf xa (rounds D 6) := rfl
theorem pay46 (D : FVec F S256x4096 .f32) : k0_pay46 (F := F) (rounds D 7) = rowMin (rounds D 7) := rfl
theorem pay47 (D : FVec F S256x4096 .f32) : k0_pay47 (F := F) (rounds D 7) = distOf (rounds D 7) := rfl
theorem pay48 (xa : FVec F S4096x4 .f32) (D : FVec F S256x4096 .f32) : k0_pay48 (F := F) xa (rounds D 7) = nbrOf xa (rounds D 7) := rfl
theorem pay53 (E : FVec F S256x4096 .f32) : k0_pay53 (F := F) (rowMin0 (rounds E 0)) = rowMin (rounds E 0) := rfl
theorem pay54 (E : FVec F S256x4096 .f32) : k0_pay54 (F := F) (rounds E 0) (rowMin0 (rounds E 0)) = hits (rounds E 0) := rfl
theorem pay55 (E : FVec F S256x4096 .f32) : k0_pay55 (F := F) (rounds E 0) (rowMin0 (rounds E 0)) = rounds E 1 := rfl
theorem pay56 (E : FVec F S256x4096 .f32) : k0_pay56 (F := F) (rowMin0 (rounds E 0)) = distOf (rounds E 0) := rfl
theorem pay57 (ya : FVec F S4096x4 .f32) (E : FVec F S256x4096 .f32) : k0_pay57 (F := F) ya (rounds E 0) (rowMin0 (rounds E 0)) = nbrOf ya (rounds E 0) := rfl
theorem pay58 (E : FVec F S256x4096 .f32) : k0_pay58 (F := F) (rounds E 0) (rowMin0 (rounds E 0)) = rowMin (rounds E 1) := rfl
theorem pay59 (E : FVec F S256x4096 .f32) : k0_pay59 (F := F) (rounds E 0) (rowMin0 (rounds E 0)) = hits (rounds E 1) := rfl
theorem pay60 (E : FVec F S256x4096 .f32) : k0_pay60 (F := F) (rounds E 0) (rowMin0 (rounds E 0)) = rounds E 2 := rfl
theorem pay61 (E : FVec F S256x4096 .f32) : k0_pay61 (F := F) (rounds E 0) (rowMin0 (rounds E 0)) = distOf (rounds E 1) := rfl
theorem pay62 (ya : FVec F S4096x4 .f32) (E : FVec F S256x4096 .f32) : k0_pay62 (F := F) ya (rounds E 0) (rowMin0 (rounds E 0)) = nbrOf ya (rounds E 1) := rfl
theorem pay63 (E : FVec F S256x4096 .f32) : k0_pay63 (F := F) (rounds E 0) (rowMin0 (rounds E 0)) = rowMin (rounds E 2) := rfl
theorem pay64 (E : FVec F S256x4096 .f32) : k0_pay64 (F := F) (rounds E 0) (rowMin0 (rounds E 0)) = isMin (rounds E 2) := rfl
theorem pay65 : k0_pay65 (F := F) = ones := rfl
theorem pay66 (E : FVec F S256x4096 .f32) : k0_pay66 (F := F) (isMin (rounds E 2)) (FloatOps.ofBits .f32 0x00000000#32) ones = hits (rounds E 2) := rfl
theorem pay67 (E : FVec F S256x4096 .f32) : k0_pay67 (F := F) (rounds E 2) (isMin (rounds E 2)) (FloatOps.ofBits .f32 0x00000000#32) ones = rounds E 3 := rfl
theorem pay68 (E : FVec F S256x4096 .f32) : k0_pay68 (F := F) (rowMin (rounds E 2)) = distOf (rounds E 2) := rfl
theorem pay69 (ya : FVec F S4096x4 .f32) (E : FVec F S256x4096 .f32) : k0_pay69 (F := F) ya (isMin (rounds E 2)) (FloatOps.ofBits .f32 0x00000000#32) ones = nbrOf ya (rounds E 2) := rfl
theorem pay70 (E : FVec F S256x4096 .f32) : k0_pay70 (F := F) (rounds E 2) (isMin (rounds E 2)) (FloatOps.ofBits .f32 0x00000000#32) ones = rowMin (rounds E 3) := rfl
theorem pay71 (E : FVec F S256x4096 .f32) : k0_pay71 (F := F) (rounds E 2) (isMin (rounds E 2)) (FloatOps.ofBits .f32 0x00000000#32) ones = hits (rounds E 3) := rfl
theorem pay72 (E : FVec F S256x4096 .f32) : k0_pay72 (F := F) (rounds E 2) (isMin (rounds E 2)) (FloatOps.ofBits .f32 0x00000000#32) ones = rounds E 4 := rfl
theorem pay73 (E : FVec F S256x4096 .f32) : k0_pay73 (F := F) (rounds E 2) (isMin (rounds E 2)) (FloatOps.ofBits .f32 0x00000000#32) ones = distOf (rounds E 3) := rfl
theorem pay74 (ya : FVec F S4096x4 .f32) (E : FVec F S256x4096 .f32) : k0_pay74 (F := F) ya (rounds E 2) (isMin (rounds E 2)) (FloatOps.ofBits .f32 0x00000000#32) ones = nbrOf ya (rounds E 3) := rfl
theorem pay75 (E : FVec F S256x4096 .f32) : k0_pay75 (F := F) (rounds E 2) (isMin (rounds E 2)) (FloatOps.ofBits .f32 0x00000000#32) ones = rowMin (rounds E 4) := rfl
theorem pay76 (E : FVec F S256x4096 .f32) : k0_pay76 (F := F) (rounds E 2) (isMin (rounds E 2)) (FloatOps.ofBits .f32 0x00000000#32) ones = hits (rounds E 4) := rfl
theorem pay77 (ya : FVec F S4096x4 .f32) (E : FVec F S256x4096 .f32) : k0_pay77 (F := F) ya (rounds E 2) (isMin (rounds E 2)) (FloatOps.ofBits .f32 0x00000000#32) ones = gathered ya (rounds E 4) := rfl
theorem pay78 : k0_pay78 (F := F) = bigs := rfl
theorem pay79 (E : FVec F S256x4096 .f32) : k0_pay79 (F := F) (rounds E 4) (hits (rounds E 4)) bigs = rounds E 5 := rfl
theorem pay80 (E : FVec F S256x4096 .f32) : k0_pay80 (F := F) (rowMin (rounds E 4)) = distOf (rounds E 4) := rfl
theorem pay81 (ya : FVec F S4096x4 .f32) (E : FVec F S256x4096 .f32) : k0_pay81 (F := F) (gathered ya (rounds E 4)) = nbrOf ya (rounds E 4) := rfl
theorem pay82 (E : FVec F S256x4096 .f32) : k0_pay82 (F := F) (rounds E 4) (hits (rounds E 4)) bigs = rowMin (rounds E 5) := rfl
theorem pay83 (E : FVec F S256x4096 .f32) : k0_pay83 (F := F) (rounds E 4) (hits (rounds E 4)) bigs = hits (rounds E 5) := rfl
theorem pay84 (E : FVec F S256x4096 .f32) : k0_pay84 (F := F) (rounds E 4) (hits (rounds E 4)) bigs = rounds E 6 := rfl
theorem pay85 (E : FVec F S256x4096 .f32) : k0_pay85 (F := F) (rounds E 4) (hits (rounds E 4)) bigs = distOf (rounds E 5) := rfl
theorem pay86 (ya : FVec F S4096x4 .f32) (E : FVec F S256x4096 .f32) : k0_pay86 (F := F) ya (rounds E 4) (hits (rounds E 4)) bigs = nbrOf ya (rounds E 5) := rfl
theorem pay87 (E : FVec F S256x4096 .f32) : k0_pay87 (F := F) (rounds E 4) (hits (rounds E 4)) bigs = rowMin (rounds E 6) := rfl
theorem pay88 (E : FVec F S256x4096 .f32) : k0_pay88 (F := F) (rounds E 4) (hits (rounds E 4)) bigs = hits (rounds E 6) := rfl
theorem pay89 (ya : FVec F S4096x4 .f32) (E : FVec F S256x4096 .f32) : k0_pay89 (F := F) ya (rounds E 4) (hits (rounds E 4)) bigs = gathered ya (rounds E 6) := rfl
theorem pay90 (E : FVec F S256x4096 .f32) : k0_pay90 (F := F) (rounds E 4) (hits (rounds E 4)) bigs = rounds E 7 := rfl
theorem pay91 (E : FVec F S256x4096 .f32) : k0_pay91 (F := F) (rounds E 4) (hits (rounds E 4)) bigs = distOf (rounds E 6) := rfl
theorem pay92 (ya : FVec F S4096x4 .f32) (E : FVec F S256x4096 .f32) : k0_pay92 (F := F) (gathered ya (rounds E 6)) = nbrOf ya (rounds E 6) := rfl
theorem pay93 (E : FVec F S256x4096 .f32) : k0_pay93 (F := F) (rounds E 7) = rowMin (rounds E 7) := rfl
theorem pay94 (E : FVec F S256x4096 .f32) : k0_pay94 (F := F) (rounds E 7) = distOf (rounds E 7) := rfl
theorem pay95 (ya : FVec F S4096x4 .f32) (E : FVec F S256x4096 .f32) : k0_pay95 (F := F) ya (rounds E 7) = nbrOf ya (rounds E 7) := rfl
theorem pay96 : k0_pay96 (F := F) = zcol := rfl
theorem pay97 : k0_pay97 (F := F) = zcol := rfl
theorem pay98 : k0_pay98 (F := F) = zcol := rfl
theorem pay99 : k0_pay99 (F := F) = zcol := rfl
theorem pay100 : k0_pay100 (F := F) = zcol := rfl
theorem pay101 : k0_pay101 (F := F) = zcol := rfl
theorem pay102 : k0_pay102 (F := F) = zcol := rfl
theorem pay103 : k0_pay103 (F := F) = zcol := rfl
theorem pay104 : k0_pay104 (F := F) = zcol := rfl
theorem pay105 : k0_pay105 (F := F) = zcol := rfl
theorem pay106 : k0_pay106 (F := F) = zcol := rfl
theorem pay107 : k0_pay107 (F := F) = zcol := rfl
theorem pay108 : k0_pay108 (F := F) = zcol := rfl
theorem pay109 (xa : FVec F S4096x4 .f32) (xb : FVec F S256x3 .f32) (D : FVec F S256x4096 .f32) : k0_pay109 (F := F) xb (nbrOf xa (rounds D 0)) = vecs xa xb D 0 := rfl
theorem pay110 (ya : FVec F S4096x4 .f32) (yb : FVec F S256x3 .f32) (E : FVec F S256x4096 .f32) : k0_pay110 (F := F) yb (nbrOf ya (rounds E 0)) = vecs ya yb E 0 := rfl
theorem pay111 (xa : FVec F S4096x4 .f32) (xb : FVec F S256x3 .f32) (D : FVec F S256x4096 .f32) : k0_pay111 (F := F) xb (nbrOf xa (rounds D 0)) = sq (vecs xa xb D 0) := rfl
theorem pay112 (xa : FVec F S4096x4 .f32) (xb : FVec F S256x3 .f32) (D : FVec F S256x4096 .f32) (ya : FVec F S4096x4 .f32) (yb : FVec F S256x3 .f32) (E : FVec F S256x4096 .f32) : k0_pay112 (F := F) zcol (vecs xa xb D 0) (vecs ya yb E 0) (sq (vecs xa xb D 0)) = sumTo (cosines (vecs xa xb D) (vecs ya yb E)) 1 := rfl
theorem pay113 (xa : FVec F S4096x4 .f32) (xb : FVec F S256x3 .f32) (D : FVec F S256x4096 .f32) : k0_pay113 (F := F) zcol (vecs xa xb D 0) = sumTo (prods (vecs xa xb D) 0 0) 1 := rfl
theorem pay114 (ya : FVec F S4096x4 .f32) (yb : FVec F S256x3 .f32) (E : FVec F S256x4096 .f32) : k0_pay114 (F := F) zcol (vecs ya yb E 0) = sumTo (prods (vecs ya yb E) 0 0) 1 := rfl
theorem pay115 (xa : FVec F S4096x4 .f32) (xb : FVec F S256x3 .f32) (D : FVec F S256x4096 .f32) : k0_pay115 (F := F) zcol (vecs xa xb D 0) = sumTo (prods (vecs xa xb D) 1 1) 1 := rfl
theorem pay116 (ya : FVec F S4096x4 .f32) (yb : FVec F S256x3 .f32) (E : FVec F S256x4096 .f32) : k0_pay116 (F := F) zcol (vecs ya yb E 0) = sumTo (prods (vecs ya yb E) 1 1) 1 := rfl
theorem pay117 (xa : FVec F S4096x4 .f32) (xb : FVec F S256x3 .f32) (D : FVec F S256x4096 .f32) : k0_pay117 (F := F) zcol (vecs xa xb D 0) = sumTo (prods (vecs xa xb D) 2 2) 1 := rfl
theorem pay118 (ya : FVec F S4096x4 .f32) (yb : FVec F S256x3 .f32) (E : FVec F S256x4096 .f32) : k0_pay118 (F := F) zcol (vecs ya yb E 0) = sumTo (prods (vecs ya yb E) 2 2) 1 := rfl
theorem pay119 (xa : FVec F S4096x4 .f32) (xb : FVec F S256x3 .f32) (D : FVec F S256x4096 .f32) : k0_pay119 (F := F) zcol (vecs xa xb D 0) = sumTo (prods (vecs xa xb D) 0 1) 1 := rfl
theorem pay120 (ya : FVec F S4096x4 .f32) (yb : FVec F S256x3 .f32) (E : FVec F S256x4096 .f32) : k0_pay120 (F := F) zcol (vecs ya yb E 0) = sumTo (prods (vecs ya yb E) 0 1) 1 := rfl
theorem pay121 (xa : FVec F S4096x4 .f32) (xb : FVec F S256x3 .f32) (D : FVec F S256x4096 .f32) : k0_pay121 (F := F) zcol (vecs xa xb D 0) = sumTo (prods (vecs xa xb D) 0 2) 1 := rfl
theorem pay122 (ya : FVec F S4096x4 .f32) (yb : FVec F S256x3 .f32) (E : FVec F S256x4096 .f32) : k0_pay122 (F := F) (vecs ya yb E 0) = col 0 (vecs ya yb E 0) := rfl
theorem pay123 (ya : FVec F S4096x4 .f32) (yb : FVec F S256x3 .f32) (E : FVec F S256x4096 .f32) : k0_pay123 (F := F) zcol (vecs ya yb E 0) (col 0 (vecs ya yb E 0)) = sumTo (prods (vecs ya yb E) 0 2) 1 := rfl
theorem pay124 (xa : FVec F S4096x4 .f32) (xb : FVec F S256x3 .f32) (D : FVec F S256x4096 .f32) : k0_pay124 (F := F) zcol (vecs xa xb D 0) = sumTo (prods (vecs xa xb D) 1 2) 1 := rfl
theorem pay125 (ya : FVec F S4096x4 .f32) (yb : FVec F S256x3 .f32) (E : FVec F S256x4096 .f32) : k0_pay125 (F := F) zcol (vecs ya yb E 0) = sumTo (prods (vecs ya yb E) 1 2) 1 := rfl
theorem pay126 (xa : FVec F S4096x4 .f32) (xb : FVec F S256x3 .f32) (D : FVec F S256x4096 .f32) : k0_pay126 (F := F) xb (nbrOf xa (rounds D 1)) = vecs xa xb D 1 := rfl
theorem pay127 (ya : FVec F S4096x4 .f32) (yb : FVec F S256x3 .f32) (E : FVec F S256x4096 .f32) : k0_pay127 (F := F) yb (nbrOf ya (rounds E 1)) = vecs ya yb E 1 := rfl
theorem pay128 (xa : FVec F S4096x4 .f32) (xb : FVec F S256x3 .f32) (D : FVec F S256x4096 .f32) (ya : FVec F S4096x4 .f32) (yb : FVec F S256x3 .f32) (E : FVec F S256x4096 .f32) : k0_pay128 (F := F) xb (nbrOf xa (rounds D 1)) yb (nbrOf ya (rounds E 1)) (sumTo (cosines (vecs xa xb D) (vecs ya yb E)) 1) = sumTo (cosines (vecs xa xb D) (vecs ya yb E)) 2 := rfl
theorem pay129 (xa : FVec F S4096x4 .f32) (xb : FVec F S256x3 .f32) (D : FVec F S256x4096 .f32) : k0_pay129 (F := F) xb (nbrOf xa (rounds D 1)) (sumTo (prods (vecs xa xb D) 0 0) 1) = sumTo (prods (vecs xa xb D) 0 0) 2 := rfl
theorem pay130 (ya : FVec F S4096x4 .f32) (yb : FVec F S256x3 .f32) (E : FVec F S256x4096 .f32) : k0_pay130 (F := F) yb (nbrOf ya (rounds E 1)) (sumTo (prods (vecs ya yb E) 0 0) 1) = sumTo (prods (vecs ya yb E) 0 0) 2 := rfl
theorem pay131 (xa : FVec F S4096x4 .f32) (xb : FVec F S256x3 .f32) (D : FVec F S256x4096 .f32) : k0_pay131 (F := F) xb (nbrOf xa (rounds D 1)) (sumTo (prods (vecs xa xb D) 1 1) 1) = sumTo (prods (vecs xa xb D) 1 1) 2 := rfl
theorem pay132 (ya : FVec F S4096x4 .f32) (yb : FVec F S256x3 .f32) (E : FVec F S256x4096 .f32) : k0_pay132 (F := F) yb (nbrOf ya (rounds E 1)) (sumTo (prods (vecs ya yb E) 1 1) 1) = sumTo (prods (vecs ya yb E) 1 1) 2 := rfl
theorem pay133 (xa : FVec F S4096x4 .f32) (xb : FVec F S256x3 .f32) (D : FVec F S256x4096 .f32) : k0_pay133 (F := F) xb (nbrOf xa (rounds D 1)) (sumTo (prods (vecs xa xb D) 2 2) 1) = sumTo (prods (vecs xa xb D) 2 2) 2 := rfl
theorem pay134 (ya : FVec F S4096x4 .f32) (yb : FVec F S256x3 .f32) (E : FVec F S256x4096 .f32) : k0_pay134 (F := F) yb (nbrOf ya (rounds E 1)) = col 2 (vecs ya yb E 1) := rfl
theorem pay135 (ya : FVec F S4096x4 .f32) (yb : FVec F S256x3 .f32) (E : FVec F S256x4096 .f32) : k0_pay135 (F := F) yb (nbrOf ya (rounds E 1)) = col 2 (vecs ya yb E 1) := rfl
theorem pay136 (ya : FVec F S4096x4 .f32) (yb : FVec F S256x3 .f32) (E : FVec F S256x4096 .f32) : k0_pay136 (F := F) (sumTo (prods (vecs ya yb E) 2 2) 1) (col 2 (vecs ya yb E 1)) (col 2 (vecs ya yb E 1)) = sumTo (prods (vecs ya yb E) 2 2) 2 := rfl
theorem pay137 (xa : FVec F S4096x4 .f32) (xb : FVec F S256x3 .f32) (D : FVec F S256x4096 .f32) : k0_pay137 (F := F) (sumTo (prods (vecs xa xb D) 0 1) 1) (vecs xa xb D 1) = sumTo (prods (vecs xa xb D) 0 1) 2 := rfl
theorem pay138 (ya : FVec F S4096x4 .f32) (yb : FVec F S256x3 .f32) (E : FVec F S256x4096 .f32) : k0_pay138 (F := F) (sumTo (prods (vecs ya yb E) 0 1) 1) (vecs ya yb E 1) = sumTo (prods (vecs ya yb E) 0 1) 2 := rfl
theorem pay139 (xa : FVec F S4096x4 .f32) (xb : FVec F S256x3 .f32) (D : FVec F S256x4096 .f32) : k0_pay139 (F := F) (sumTo (prods (vecs xa xb D) 0 2) 1) (vecs xa xb D 1) = sumTo (prods (vecs xa xb D) 0 2) 2 := rfl
theorem pay140 (ya : FVec F S4096x4 .f32) (yb : FVec F S256x3 .f32) (E : FVec F S256x4096 .f32) : k0_pay140 (F := F) (sumTo (prods (vecs ya yb E) 0 2) 1) (vecs ya yb E 1) = sumTo (prods (vecs ya yb E) 0 2) 2 := rfl
theorem pay141 (xa : FVec F S4096x4 .f32) (xb : FVec F S256x3 .f32) (D : FVec F S256x4096 .f32) : k0_pay141 (F := F) (sumTo (prods (vecs xa xb D) 1 2) 1) (vecs xa xb D 1) = sumTo (prods (vecs xa xb D) 1 2) 2 := rfl
theorem pay142 (ya : FVec F S4096x4 .f32) (yb : FVec F S256x3 .f32) (E : FVec F S256x4096 .f32) : k0_pay142 (F := F) (sumTo (prods (vecs ya yb E) 1 2) 1) (vecs ya yb E 1) = sumTo (prods (vecs ya yb E) 1 2) 2 := rfl
theorem pay143 (xa : FVec F S4096x4 .f32) (xb : FVec F S256x3 .f32) (D : FVec F S256x4096 .f32) : k0_pay143 (F := F) xb (nbrOf xa (rounds D 2)) = vecs xa xb D 2 := rfl
theorem pay144 (ya : FVec F S4096x4 .f32) (yb : FVec F S256x3 .f32) (E : FVec F S256x4096 .f32) : k0_pay144 (F := F) yb (nbrOf ya (rounds E 2)) = vecs ya yb E 2 := rfl
theorem pay145 (xa : FVec F S4096x4 .f32) (xb : FVec F S256x3 .f32) (D : FVec F S256x4096 .f32) (ya : FVec F S4096x4 .f32) (yb : FVec F S256x3 .f32) (E : FVec F S256x4096 .f32) : k0_pay145 (F := F) xb (nbrOf xa (rounds D 2)) yb (nbrOf ya (rounds E 2)) (sumTo (cosines (vecs xa xb D) (vecs ya yb E)) 2) = sumTo (cosines (vecs xa xb D) (vecs ya yb E)) 3 := rfl
theorem pay146 (xa : FVec F S4096x4 .f32) (xb : FVec F S256x3 .f32) (D : FVec F S256x4096 .f32) : k0_pay146 (F := F) xb (nbrOf xa (rounds D 2)) (sumTo (prods (vecs xa xb D) 0 0) 2) = sumTo (prods (vecs xa xb D) 0 0) 3 := rfl
theorem pay147 (ya : FVec F S4096x4 .f32) (yb : FVec F S256x3 .f32) (E : FVec F S256x4096 .f32) : k0_pay147 (F := F) yb (nbrOf ya (rounds E 2)) = prods (vecs ya yb E) 0 0 2 := rfl
theorem pay148 (ya : FVec F S4096x4 .f32) (yb : FVec F S256x3 .f32) (E : FVec F S256x4096 .f32) : k0_pay148 (F := F) (sumTo (prods (vecs ya yb E) 0 0) 2) (prods (vecs ya yb E) 0 0 2) = sumTo (prods (vecs ya yb E) 0 0) 3 := rfl
theorem pay149 (xa : FVec F S4096x4 .f32) (xb : FVec F S256x3 .f32) (D : FVec F S256x4096 .f32) : k0_pay149 (F := F) (sumTo (prods (vecs xa xb D) 1 1) 2) (vecs xa xb D 2) = sumTo (prods (vecs xa xb D) 1 1) 3 := rfl
theorem pay150 (ya : FVec F S4096x4 .f32) (yb : FVec F S256x3 .f32) (E : FVec F S256x4096 .f32) : k0_pay150 (F := F) (sumTo (prods (vecs ya yb E) 1 1) 2) (vecs ya yb E 2) = sumTo (prods (vecs ya yb E) 1 1) 3 := rfl
theorem pay151 (xa : FVec F S4096x4 .f32) (xb : FVec F S256x3 .f32) (D : FVec F S256x4096 .f32) : k0_pay151 (F := F) (sumTo (prods (vecs xa xb D) 2 2) 2) (vecs xa xb D 2) = sumTo (prods (vecs xa xb D) 2 2) 3 := rfl
theorem pay152 (ya : FVec F S4096x4 .f32) (yb : FVec F S256x3 .f32) (E : FVec F S256x4096 .f32) : k0_pay152 (F := F) (sumTo (prods (vecs ya yb E) 2 2) 2) (vecs ya yb E 2) = sumTo (prods (vecs ya yb E) 2 2) 3 := rfl
theorem pay153 (xa : FVec F S4096x4 .f32) (xb : FVec F S256x3 .f32) (D : FVec F S256x4096 .f32) : k0_pay153 (F := F) (sumTo (prods (vecs xa xb D) 0 1) 2) (vecs xa xb D 2) = sumTo (prods (vecs xa xb D) 0 1) 3 := rfl
theorem pay154 (ya : FVec F S4096x4 .f32) (yb : FVec F S256x3 .f32) (E : FVec F S256x4096 .f32) : k0_pay154 (F := F) (sumTo (prods (vecs ya yb E) 0 1) 2) (vecs ya yb E 2) = sumTo (prods (vecs ya yb E) 0 1) 3 := rfl
theorem pay155 (xa : FVec F S4096x4 .f32) (xb : FVec F S256x3 .f32) (D : FVec F S256x4096 .f32) : k0_pay155 (F := F) (sumTo (prods (vecs xa xb D) 0 2) 2) (vecs xa xb D 2) = sumTo (prods (vecs xa xb D) 0 2) 3 := rfl
theorem pay156 (ya : FVec F S4096x4 .f32) (yb : FVec F S256x3 .f32) (E : FVec F S256x4096 .f32) : k0_pay156 (F := F) (sumTo (prods (vecs ya yb E) 0 2) 2) (vecs ya yb E 2) = sumTo (prods (vecs ya yb E) 0 2) 3 := rfl
theorem pay157 (xa : FVec F S4096x4 .f32) (xb : FVec F S256x3 .f32) (D : FVec F S256x4096 .f32) : k0_pay157 (F := F) (sumTo (prods (vecs xa xb D) 1 2) 2) (vecs xa xb D 2) = sumTo (prods (vecs xa xb D) 1 2) 3 := rfl
theorem pay158 (ya : FVec F S4096x4 .f32) (yb : FVec F S256x3 .f32) (E : FVec F S256x4096 .f32) : k0_pay158 (F := F) (sumTo (prods (vecs ya yb E) 1 2) 2) (vecs ya yb E 2) = sumTo (prods (vecs ya yb E) 1 2) 3 := rfl
theorem pay159 (xa : FVec F S4096x4 .f32) (xb : FVec F S256x3 .f32) (D : FVec F S256x4096 .f32) : k0_pay159 (F := F) xb (nbrOf xa (rounds D 3)) = vecs xa xb D 3 := rfl
theorem pay160 (ya : FVec F S4096x4 .f32) (yb : FVec F S256x3 .f32) (E : FVec F S256x4096 .f32) : k0_pay160 (F := F) yb (nbrOf ya (rounds E 3)) = vecs ya yb E 3 := rfl
theorem pay161 (ya : FVec F S4096x4 .f32) (yb : FVec F S256x3 .f32) (E : FVec F S256x4096 .f32) : k0_pay161 (F := F) yb (nbrOf ya (rounds E 3)) = lenOf (vecs ya yb E 3) := rfl
theorem pay162 (xa : FVec F S4096x4 .f32) (xb : FVec F S256x3 .f32) (D : FVec F S256x4096 .f32) : k0_pay162 (F := F) xb (nbrOf xa (rounds D 3)) = spread (lenOf (vecs xa xb D 3)) := rfl
theorem pay163 (xa : FVec F S4096x4 .f32) (xb : FVec F S256x3 .f32) (D : FVec F S256x4096 .f32) (ya : FVec F S4096x4 .f32) (yb : FVec F S256x3 .f32) (E : FVec F S256x4096 .f32) : k0_pay163 (F := F) (sumTo (cosines (vecs xa xb D) (vecs ya yb E)) 3) (vecs xa xb D 3) (vecs ya yb E 3) (lenOf (vecs ya yb E 3)) (spread (lenOf (vecs xa xb D 3))) = sumTo (cosines (vecs xa xb D) (vecs ya yb E)) 4 := rfl
theorem pay164 (xa : FVec F S4096x4 .f32) (xb : FVec F S256x3 .f32) (D : FVec F S256x4096 .f32) : k0_pay164 (F := F) (sumTo (prods (vecs xa xb D) 0 0) 3) (vecs xa xb D 3) = sumTo (prods (vecs xa xb D) 0 0) 4 := rfl
theorem pay165 (ya : FVec F S4096x4 .f32) (yb : FVec F S256x3 .f32) (E : FVec F S256x4096 .f32) : k0_pay165 (F := F) (sumTo (prods (vecs ya yb E) 0 0) 3) (vecs ya yb E 3) = sumTo (prods (vecs ya yb E) 0 0) 4 := rfl
theorem pay166 (xa : FVec F S4096x4 .f32) (xb : FVec F S256x3 .f32) (D : FVec F S256x4096 .f32) : k0_pay166 (F := F) (sumTo (prods (vecs xa xb D) 1 1) 3) (vecs xa xb D 3) = sumTo (prods (vecs xa xb D) 1 1) 4 := rfl
theorem pay167 (ya : FVec F S4096x4 .f32) (yb : FVec F S256x3 .f32) (E : FVec F S256x4096 .f32) : k0_pay167 (F := F) (sumTo (prods (vecs ya yb E) 1 1) 3) (vecs ya yb E 3) = sumTo (prods (vecs ya yb E) 1 1) 4 := rfl
theorem pay168 (xa : FVec F S4096x4 .f32) (xb : FVec F S256x3 .f32) (D : FVec F S256x4096 .f32) : k0_pay168 (F := F) (sumTo (prods (vecs xa xb D) 2 2) 3) (vecs xa xb D 3) = sumTo (prods (vecs xa xb D) 2 2) 4 := rfl
theorem pay169 (ya : FVec F S4096x4 .f32) (yb : FVec F S256x3 .f32) (E : FVec F S256x4096 .f32) : k0_pay169 (F := F) (sumTo (prods (vecs ya yb E) 2 2) 3) (vecs ya yb E 3) = sumTo (prods (vecs ya yb E) 2 2) 4 := rfl
theorem pay170 (xa : FVec F S4096x4 .f32) (xb : FVec F S256x3 .f32) (D : FVec F S256x4096 .f32) : k0_pay170 (F := F) (sumTo (prods (vecs xa xb D) 0 1) 3) (vecs xa xb D 3) = sumTo (prods (vecs xa xb D) 0 1) 4 := rfl
theorem pay171 (ya : FVec F S4096x4 .f32) (yb : FVec F S256x3 .f32) (E : FVec F S256x4096 .f32) : k0_pay171 (F := F) (sumTo (prods (vecs ya yb E) 0 1) 3) (vecs ya yb E 3) = sumTo (prods (vecs ya yb E) 0 1) 4 := rfl
theorem pay172 (xa : FVec F S4096x4 .f32) (xb : FVec F S256x3 .f32) (D : FVec F S256x4096 .f32) : k0_pay172 (F := F) (sumTo (prods (vecs xa xb D) 0 2) 3) (vecs xa xb D 3) = sumTo (prods (vecs xa xb D) 0 2) 4 := rfl
theorem pay173 (ya : FVec F S4096x4 .f32) (yb : FVec F S256x3 .f32) (E : FVec F S256x4096 .f32) : k0_pay173 (F := F) (sumTo (prods (vecs ya yb E) 0 2) 3) (vecs ya yb E 3) = sumTo (prods (vecs ya yb E) 0 2) 4 := rfl
theorem pay174 (xa : FVec F S4096x4 .f32) (xb : FVec F S256x3 .f32) (D : FVec F S256x4096 .f32) : k0_pay174 (F := F) (sumTo (prods (vecs xa xb D) 1 2) 3) (vecs xa xb D 3) = sumTo (prods (vecs xa xb D) 1 2) 4 := rfl
theorem pay175 (ya : FVec F S4096x4 .f32) (yb : FVec F S256x3 .f32) (E : FVec F S256x4096 .f32) : k0_pay175 (F := F) (sumTo (prods (vecs ya yb E) 1 2) 3) (vecs ya yb E 3) = sumTo (prods (vecs ya yb E) 1 2) 4 := rfl
theorem pay176 (xa : FVec F S4096x4 .f32) (xb : FVec F S256x3 .f32) (D : FVec F S256x4096 .f32) : k0_pay176 (F := F) xb (nbrOf xa (rounds D 4)) = vecs xa xb D 4 := rfl
theorem pay177 (ya : FVec F S4096x4 .f32) (yb : FVec F S256x3 .f32) (E : FVec F S256x4096 .f32) : k0_pay177 (F := F) yb (nbrOf ya (rounds E 4)) = vecs ya yb E 4 := rfl
theorem pay178 (xa : FVec F S4096x4 .f32) (xb : FVec F S256x3 .f32) (D : FVec F S256x4096 .f32) : k0_pay178 (F := F) xb (nbrOf xa (rounds D 4)) = sq (vecs xa xb D 4) := rfl
theorem pay179 (xa : FVec F S4096x4 .f32) (xb : FVec F S256x3 .f32) (D : FVec F S256x4096 .f32) (ya : FVec F S4096x4 .f32) (yb : FVec F S256x3 .f32) (E : FVec F S256x4096 .f32) : k0_pay179 (F := F) (sumTo (cosines (vecs xa xb D) (vecs ya yb E)) 4) (vecs xa xb D 4) (vecs ya yb E 4) (sq (vecs xa xb D 4)) = sumTo (cosines (vecs xa xb D) (vecs ya yb E)) 5 := rfl
theorem pay180 (xa : FVec F S4096x4 .f32) (xb : FVec F S256x3 .f32) (D : FVec F S256x4096 .f32) : k0_pay180 (F := F) (sumTo (prods (vecs xa xb D) 0 0) 4) (vecs xa xb D 4) = sumTo (prods (vecs xa xb D) 0 0) 5 := rfl
theorem pay181 (ya : FVec F S4096x4 .f32) (yb : FVec F S256x3 .f32) (E : FVec F S256x4096 .f32) : k0_pay181 (F := F) (sumTo (prods (vecs ya yb E) 0 0) 4) (vecs ya yb E 4) = sumTo (prods (vecs ya yb E) 0 0) 5 := rfl
theorem pay182 (xa : FVec F S4096x4 .f32) (xb : FVec F S256x3 .f32) (D : FVec F S256x4096 .f32) : k0_pay182 (F := F) (sumTo (prods (vecs xa xb D) 1 1) 4) (vecs xa xb D 4) = sumTo (prods (vecs xa xb D) 1 1) 5 := rfl
theorem pay183 (ya : FVec F S4096x4 .f32) (yb : FVec F S256x3 .f32) (E : FVec F S256x4096 .f32) : k0_pay183 (F := F) (sumTo (prods (vecs ya yb E) 1 1) 4) (vecs ya yb E 4) = sumTo (prods (vecs ya yb E) 1 1) 5 := rfl
theorem pay184 (xa : FVec F S4096x4 .f32) (xb : FVec F S256x3 .f32) (D : FVec F S256x4096 .f32) : k0_pay184 (F := F) (sumTo (prods (vecs xa xb D) 2 2) 4) (vecs xa xb D 4) = sumTo (prods (vecs xa xb D) 2 2) 5 := rfl
theorem pay185 (ya : FVec F S4096x4 .f32) (yb : FVec F S256x3 .f32) (E : FVec F S256x4096 .f32) : k0_pay185 (F := F) (sumTo (prods (vecs ya yb E) 2 2) 4) (vecs ya yb E 4) = sumTo (prods (vecs ya yb E) 2 2) 5 := rfl
theorem pay186 (xa : FVec F S4096x4 .f32) (xb : FVec F S256x3 .f32) (D : FVec F S256x4096 .f32) : k0_pay186 (F := F) (sumTo (prods (vecs xa xb D) 0 1) 4) (vecs xa xb D 4) = sumTo (prods (vecs xa xb D) 0 1) 5 := rfl
theorem pay187 (ya : FVec F S4096x4 .f32) (yb : FVec F S256x3 .f32) (E : FVec F S256x4096 .f32) : k0_pay187 (F := F) (sumTo (prods (vecs ya yb E) 0 1) 4) (vecs ya yb E 4) = sumTo (prods (vecs ya yb E) 0 1) 5 := rfl
theorem pay188 (xa : FVec F S4096x4 .f32) (xb : FVec F S256x3 .f32) (D : FVec F S256x4096 .f32) : k0_pay188 (F := F) (sumTo (prods (vecs xa xb D) 0 2) 4) (vecs xa xb D 4) = sumTo (prods (vecs xa xb D) 0 2) 5 := rfl
theorem pay189 (ya : FVec F S4096x4 .f32) (yb : FVec F S256x3 .f32) (E : FVec F S256x4096 .f32) : k0_pay189 (F := F) (vecs ya yb E 4) = col 0 (vecs ya yb E 4) := rfl
theorem pay190 (ya : FVec F S4096x4 .f32) (yb : FVec F S256x3 .f32) (E : FVec F S256x4096 .f32) : k0_pay190 (F := F) (sumTo (prods (vecs ya yb E) 0 2) 4) (vecs ya yb E 4) (col 0 (vecs ya yb E 4)) = sumTo (prods (vecs ya yb E) 0 2) 5 := rfl
theorem pay191 (xa : FVec F S4096x4 .f32) (xb : FVec F S256x3 .f32) (D : FVec F S256x4096 .f32) : k0_pay191 (F := F) (sumTo (prods (vecs xa xb D) 1 2) 4) (vecs xa xb D 4) = sumTo (prods (vecs xa xb D) 1 2) 5 := rfl
theorem pay192 (ya : FVec F S4096x4 .f32) (yb : FVec F S256x3 .f32) (E : FVec F S256x4096 .f32) : k0_pay192 (F := F) (sumTo (prods (vecs ya yb E) 1 2) 4) (vecs ya yb E 4) = sumTo (prods (vecs ya yb E) 1 2) 5 := rfl
theorem pay193 (xa : FVec F S4096x4 .f32) (xb : FVec F S256x3 .f32) (D : FVec F S256x4096 .f32) : k0_pay193 (F := F) xb (nbrOf xa (rounds D 5)) = vecs xa xb D 5 := rfl
theorem pay194 (ya : FVec F S4096x4 .f32) (yb : FVec F S256x3 .f32) (E : FVec F S256x4096 .f32) : k0_pay194 (F := F) yb (nbrOf ya (rounds E 5)) = vecs ya yb E 5 := rfl
theorem pay195 (xa : FVec F S4096x4 .f32) (xb : FVec F S256x3 .f32) (D : FVec F S256x4096 .f32) (ya : FVec F S4096x4 .f32) (yb : FVec F S256x3 .f32) (E : FVec F S256x4096 .f32) : k0_pay195 (F := F) xb (nbrOf xa (rounds D 5)) yb (nbrOf ya (rounds E 5)) (sumTo (cosines (vecs xa xb D) (vecs ya yb E)) 5) = sumTo (cosines (vecs xa xb D) (vecs ya yb E)) 6 := rfl
theorem pay196 (xa : FVec F S4096x4 .f32) (xb : FVec F S256x3 .f32) (D : FVec F S256x4096 .f32) : k0_pay196 (F := F) xb (nbrOf xa (rounds D 5)) (sumTo (prods (vecs xa xb D) 0 0) 5) = sumTo (prods (vecs xa xb D) 0 0) 6 := rfl
theorem pay197 (ya : FVec F S4096x4 .f32) (yb : FVec F S256x3 .f32) (E : FVec F S256x4096 .f32) : k0_pay197 (F := F) yb (nbrOf ya (rounds E 5)) (sumTo (prods (vecs ya yb E) 0 0) 5) = sumTo (prods (vecs ya yb E) 0 0) 6 := rfl
theorem pay198 (xa : FVec F S4096x4 .f32) (xb : FVec F S256x3 .f32) (D : FVec F S256x4096 .f32) : k0_pay198 (F := F) xb (nbrOf xa (rounds D 5)) (sumTo (prods (vecs xa xb D) 1 1) 5) = sumTo (prods (vecs xa xb D) 1 1) 6 := rfl
theorem pay199 (ya : FVec F S4096x4 .f32) (yb : FVec F S256x3 .f32) (E : FVec F S256x4096 .f32) : k0_pay199 (F := F) yb (nbrOf ya (rounds E 5)) (sumTo (prods (vecs ya yb E) 1 1) 5) = sumTo (prods (vecs ya yb E) 1 1) 6 := rfl
theorem pay200 (xa : FVec F S4096x4 .f32) (xb : FVec F S256x3 .f32) (D : FVec F S256x4096 .f32) : k0_pay200 (F := F) xb (nbrOf xa (rounds D 5)) (sumTo (prods (vecs xa xb D) 2 2) 5) = sumTo (prods (vecs xa xb D) 2 2) 6 := rfl
theorem pay201 (ya : FVec F S4096x4 .f32) (yb : FVec F S256x3 .f32) (E : FVec F S256x4096 .f32) : k0_pay201 (F := F) yb (nbrOf ya (rounds E 5)) = col 2 (vecs ya yb E 5) := rfl
theorem pay202 (ya : FVec F S4096x4 .f32) (yb : FVec F S256x3 .f32) (E : FVec F S256x4096 .f32) : k0_pay202 (F := F) yb (nbrOf ya (rounds E 5)) = col 2 (vecs ya yb E 5) := rfl
theorem pay203 (ya : FVec F S4096x4 .f32) (yb : FVec F S256x3 .f32) (E : FVec F S256x4096 .f32) : k0_pay203 (F := F) (sumTo (prods (vecs ya yb E) 2 2) 5) (col 2 (vecs ya yb E 5)) (col 2 (vecs ya yb E 5)) = sumTo (prods (vecs ya yb E) 2 2) 6 := rfl
theorem pay204 (xa : FVec F S4096x4 .f32) (xb : FVec F S256x3 .f32) (D : FVec F S256x4096 .f32) : k0_pay204 (F := F) (sumTo (prods (vecs xa xb D) 0 1) 5) (vecs xa xb D 5) = sumTo (prods (vecs xa xb D) 0 1) 6 := rfl
theorem pay205 (ya : FVec F S4096x4 .f32) (yb : FVec F S256x3 .f32) (E : FVec F S256x4096 .f32) : k0_pay205 (F := F) (sumTo (prods (vecs ya yb E) 0 1) 5) (vecs ya yb E 5) = sumTo (prods (vecs ya yb E) 0 1) 6 := rfl
theorem pay206 (xa : FVec F S4096x4 .f32) (xb : FVec F S256x3 .f32) (D : FVec F S256x4096 .f32) : k0_pay206 (F := F) (sumTo (prods (vecs xa xb D) 0 2) 5) (vecs xa xb D 5) = sumTo (prods (vecs xa xb D) 0 2) 6 := rfl
theorem pay207 (ya : FVec F S4096x4 .f32) (yb : FVec F S256x3 .f32) (E : FVec F S256x4096 .f32) : k0_pay207 (F := F) (sumTo (prods (vecs ya yb E) 0 2) 5) (vecs ya yb E 5) = sumTo (prods (vecs ya yb E) 0 2) 6 := rfl
theorem pay208 (xa : FVec F S4096x4 .f32) (xb : FVec F S256x3 .f32) (D : FVec F S256x4096 .f32) : k0_pay208 (F := F) (sumTo (prods (vecs xa xb D) 1 2) 5) (vecs xa xb D 5) = sumTo (prods (vecs xa xb D) 1 2) 6 := rfl
theorem pay209 (ya : FVec F S4096x4 .f32) (yb : FVec F S256x3 .f32) (E : FVec F S256x4096 .f32) : k0_pay209 (F := F) (sumTo (prods (vecs ya yb E) 1 2) 5) (vecs ya yb E 5) = sumTo (prods (vecs ya yb E) 1 2) 6 := rfl
theorem pay210 (xa : FVec F S4096x4 .f32) (xb : FVec F S256x3 .f32) (D : FVec F S256x4096 .f32) : k0_pay210 (F := F) xb (nbrOf xa (rounds D 6)) = vecs xa xb D 6 := rfl
theorem pay211 (ya : FVec F S4096x4 .f32) (yb : FVec F S256x3 .f32) (E : FVec F S256x4096 .f32) : k0_pay211 (F := F) yb (nbrOf ya (rounds E 6)) = vecs ya yb E 6 := rfl
theorem pay212 (xa : FVec F S4096x4 .f32) (xb : FVec F S256x3 .f32) (D : FVec F S256x4096 .f32) (ya : FVec F S4096x4 .f32) (yb : FVec F S256x3 .f32) (E : FVec F S256x4096 .f32) : k0_pay212 (F := F) xb (nbrOf xa (rounds D 6)) yb (nbrOf ya (rounds E 6)) (sumTo (cosines (vecs xa xb D) (vecs ya yb E)) 6) = sumTo (cosines (vecs xa xb D) (vecs ya yb E)) 7 := rfl
theorem pay213 (xa : FVec F S4096x4 .f32) (xb : FVec F S256x3 .f32) (D : FVec F S256x4096 .f32) : k0_pay213 (F := F) xb (nbrOf xa (rounds D 6)) (sumTo (prods (vecs xa xb D) 0 0) 6) = sumTo (prods (vecs xa xb D) 0 0) 7 := rfl
theorem pay214 (ya : FVec F S4096x4 .f32) (yb : FVec F S256x3 .f32) (E : FVec F S256x4096 .f32) : k0_pay214 (F := F) yb (nbrOf ya (rounds E 6)) = prods (vecs ya yb E) 0 0 6 := rfl
theorem pay215 (ya : FVec F S4096x4 .f32) (yb : FVec F S256x3 .f32) (E : FVec F S256x4096 .f32) : k0_pay215 (F := F) (sumTo (prods (vecs ya yb E) 0 0) 6) (prods (vecs ya yb E) 0 0 6) = sumTo (prods (vecs ya yb E) 0 0) 7 := rfl
theorem pay216 (xa : FVec F S4096x4 .f32) (xb : FVec F S256x3 .f32) (D : FVec F S256x4096 .f32) : k0_pay216 (F := F) (sumTo (prods (vecs xa xb D) 1 1) 6) (vecs xa xb D 6) = sumTo (prods (vecs xa xb D) 1 1) 7 := rfl
theorem pay217 (ya : FVec F S4096x4 .f32) (yb : FVec F S256x3 .f32) (E : FVec F S256x4096 .f32) : k0_pay217 (F := F) (sumTo (prods (vecs ya yb E) 1 1) 6) (vecs ya yb E 6) = sumTo (prods (vecs ya yb E) 1 1) 7 := rfl
theorem pay218 (xa : FVec F S4096x4 .f32) (xb : FVec F S256x3 .f32) (D : FVec F S256x4096 .f32) : k0_pay218 (F := F) (sumTo (prods (vecs xa xb D) 2 2) 6) (vecs xa xb D 6) = sumTo (prods (vecs xa xb D) 2 2) 7 := rfl
theorem pay219 (ya : FVec F S4096x4 .f32) (yb : FVec F S256x3 .f32) (E : FVec F S256x4096 .f32) : k0_pay219 (F := F) (sumTo (prods (vecs ya yb E) 2 2) 6) (vecs ya yb E 6) = sumTo (prods (vecs ya yb E) 2 2) 7 := rfl
theorem pay220 (xa : FVec F S4096x4 .f32) (xb : FVec F S256x3 .f32) (D : FVec F S256x4096 .f32) : k0_pay220 (F := F) (sumTo (prods (vecs xa xb D) 0 1) 6) (vecs xa xb D 6) = sumTo (prods (vecs xa xb D) 0 1) 7 := rfl
theorem pay221 (ya : FVec F S4096x4 .f32) (yb : FVec F S256x3 .f32) (E : FVec F S256x4096 .f32) : k0_pay221 (F := F) (sumTo (prods (vecs ya yb E) 0 1) 6) (vecs ya yb E 6) = sumTo (prods (vecs ya yb E) 0 1) 7 := rfl
theorem pay222 (xa : FVec F S4096x4 .f32) (xb : FVec F S256x3 .f32) (D : FVec F S256x4096 .f32) : k0_pay222 (F := F) (sumTo (prods (vecs xa xb D) 0 2) 6) (vecs xa xb D 6) = sumTo (prods (vecs xa xb D) 0 2) 7 := rfl
theorem pay223 (ya : FVec F S4096x4 .f32) (yb : FVec F S256x3 .f32) (E : FVec F S256x4096 .f32) : k0_pay223 (F := F) (sumTo (prods (vecs ya yb E) 0 2) 6) (vecs ya yb E 6) = sumTo (prods (vecs ya yb E) 0 2) 7 := rfl
theorem pay224 (xa : FVec F S4096x4 .f32) (xb : FVec F S256x3 .f32) (D : FVec F S256x4096 .f32) : k0_pay224 (F := F) (sumTo (prods (vecs xa xb D) 1 2) 6) (vecs xa xb D 6) = sumTo (prods (vecs xa xb D) 1 2) 7 := rfl
theorem pay225 (ya : FVec F S4096x4 .f32) (yb : FVec F S256x3 .f32) (E : FVec F S256x4096 .f32) : k0_pay225 (F := F) (sumTo (prods (vecs ya yb E) 1 2) 6) (vecs ya yb E 6) = sumTo (prods (vecs ya yb E) 1 2) 7 := rfl
theorem pay226 (xa : FVec F S4096x4 .f32) (xb : FVec F S256x3 .f32) (D : FVec F S256x4096 .f32) : k0_pay226 (F := F) xb (nbrOf xa (rounds D 7)) = vecs xa xb D 7 := rfl
theorem pay227 (ya : FVec F S4096x4 .f32) (yb : FVec F S256x3 .f32) (E : FVec F S256x4096 .f32) : k0_pay227 (F := F) yb (nbrOf ya (rounds E 7)) = vecs ya yb E 7 := rfl
theorem pay228 (ya : FVec F S4096x4 .f32) (yb : FVec F S256x3 .f32) (E : FVec F S256x4096 .f32) : k0_pay228 (F := F) yb (nbrOf ya (rounds E 7)) = lenOf (vecs ya yb E 7) := rfl
theorem pay229 (xa : FVec F S4096x4 .f32) (xb : FVec F S256x3 .f32) (D : FVec F S256x4096 .f32) : k0_pay229 (F := F) xb (nbrOf xa (rounds D 7)) = spread (lenOf (vecs xa xb D 7)) := rfl
theorem pay230 (xa : FVec F S4096x4 .f32) (xb : FVec F S256x3 .f32) (D : FVec F S256x4096 .f32) (ya : FVec F S4096x4 .f32) (yb : FVec F S256x3 .f32) (E : FVec F S256x4096 .f32) : k0_pay230 (F := F) (sumTo (cosines (vecs xa xb D) (vecs ya yb E)) 7) (vecs xa xb D 7) (vecs ya yb E 7) (lenOf (vecs ya yb E 7)) (spread (lenOf (vecs xa xb D 7))) = sumTo (cosines (vecs xa xb D) (vecs ya yb E)) 8 := rfl
theorem pay231 (xa : FVec F S4096x4 .f32) (xb : FVec F S256x3 .f32) (D : FVec F S256x4096 .f32) : k0_pay231 (F := F) (sumTo (prods (vecs xa xb D) 0 0) 7) (vecs xa xb D 7) = sumTo (prods (vecs xa xb D) 0 0) 8 := rfl
theorem pay232 (ya : FVec F S4096x4 .f32) (yb : FVec F S256x3 .f32) (E : FVec F S256x4096 .f32) : k0_pay232 (F := F) (sumTo (prods (vecs ya yb E) 0 0) 7) (vecs ya yb E 7) = sumTo (prods (vecs ya yb E) 0 0) 8 := rfl
theorem pay233 (xa : FVec F S4096x4 .f32) (xb : FVec F S256x3 .f32) (D : FVec F S256x4096 .f32) : k0_pay233 (F := F) (sumTo (prods (vecs xa xb D) 1 1) 7) (vecs xa xb D 7) = sumTo (prods (vecs xa xb D) 1 1) 8 := rfl
theorem pay234 (ya : FVec F S4096x4 .f32) (yb : FVec F S256x3 .f32) (E : FVec F S256x4096 .f32) : k0_pay234 (F := F) (sumTo (prods (vecs ya yb E) 1 1) 7) (vecs ya yb E 7) = sumTo (prods (vecs ya yb E) 1 1) 8 := rfl
theorem pay235 (xa : FVec F S4096x4 .f32) (xb : FVec F S256x3 .f32) (D : FVec F S256x4096 .f32) : k0_pay235 (F := F) (sumTo (prods (vecs xa xb D) 2 2) 7) (vecs xa xb D 7) = sumTo (prods (vecs xa xb D) 2 2) 8 := rfl
theorem pay236 (ya : FVec F S4096x4 .f32) (yb : FVec F S256x3 .f32) (E : FVec F S256x4096 .f32) : k0_pay236 (F := F) (sumTo (prods (vecs ya yb E) 2 2) 7) (vecs ya yb E 7) = sumTo (prods (vecs ya yb E) 2 2) 8 := rfl
theorem pay237 (xa : FVec F S4096x4 .f32) (xb : FVec F S256x3 .f32) (D : FVec F S256x4096 .f32) : k0_pay237 (F := F) (sumTo (prods (vecs xa xb D) 0 1) 7) (vecs xa xb D 7) = sumTo (prods (vecs xa xb D) 0 1) 8 := rfl
theorem pay238 (ya : FVec F S4096x4 .f32) (yb : FVec F S256x3 .f32) (E : FVec F S256x4096 .f32) : k0_pay238 (F := F) (sumTo (prods (vecs ya yb E) 0 1) 7) (vecs ya yb E 7) = sumTo (prods (vecs ya yb E) 0 1) 8 := rfl
theorem pay239 (xa : FVec F S4096x4 .f32) (xb : FVec F S256x3 .f32) (D : FVec F S256x4096 .f32) : k0_pay239 (F := F) (sumTo (prods (vecs xa xb D) 0 2) 7) (vecs xa xb D 7) = sumTo (prods (vecs xa xb D) 0 2) 8 := rfl
theorem pay240 (ya : FVec F S4096x4 .f32) (yb : FVec F S256x3 .f32) (E : FVec F S256x4096 .f32) : k0_pay240 (F := F) (sumTo (prods (vecs ya yb E) 0 2) 7) (vecs ya yb E 7) = sumTo (prods (vecs ya yb E) 0 2) 8 := rfl
theorem pay241 (xa : FVec F S4096x4 .f32) (xb : FVec F S256x3 .f32) (D : FVec F S256x4096 .f32) : k0_pay241 (F := F) (sumTo (prods (vecs xa xb D) 1 2) 7) (vecs xa xb D 7) = sumTo (prods (vecs xa xb D) 1 2) 8 := rfl
theorem pay242 (ya : FVec F S4096x4 .f32) (yb : FVec F S256x3 .f32) (E : FVec F S256x4096 .f32) : k0_pay242 (F := F) (sumTo (prods (vecs ya yb E) 1 2) 7) (vecs ya yb E 7) = sumTo (prods (vecs ya yb E) 1 2) 8 := rfl
theorem pay243 (D : FVec F S256x4096 .f32) : k0_pay243 (F := F) (distOf (rounds D 0)) (distOf (rounds D 1)) = sumTo (dists D) 2 := rfl
theorem pay244 (D E : FVec F S256x4096 .f32) : k0_pay244 (distOf (rounds D 2)) (distOf (rounds D 3)) (distOf (rounds D 4)) (distOf (rounds D 5)) (distOf (rounds D 6)) (distOf (rounds D 7)) (distOf (rounds E 0)) (distOf (rounds E 1)) (distOf (rounds E 2)) (distOf (rounds E 3)) (distOf (rounds E 4)) (distOf (rounds E 5)) (distOf (rounds E 6)) (distOf (rounds E 7)) (sumTo (dists D) 2) = densTotal D E := rfl
theorem pay245 (p t : ℕ → FVec F S256x3 .f32) : k0_pay245 (sumTo (cosines p t) 8) = simTotal p t := rfl
theorem pay246 (p t : ℕ → FVec F S256x3 .f32) : k0_pay246 (sumTo (prods p 0 0) 8) (sumTo (prods t 0 0) 8) (sumTo (prods p 1 1) 8) (sumTo (prods t 1 1) 8) (sumTo (prods p 2 2) 8) (sumTo (prods t 2 2) 8) (sumTo (prods p 0 1) 8) (sumTo (prods t 0 1) 8) (sumTo (prods p 0 2) 8) (sumTo (prods t 0 2) 8) (sumTo (prods p 1 2) 8) (sumTo (prods t 1 2) 8) = covTotal p t := rfl

variable (c : Dev nD) (i : grid0.Coords) (arg2 : Memref sig .tc .vmem S1x4096x4 .f32) (harg2 : arg2.IsWhole) (arg3 : Memref sig .tc .vmem S1x3x4096 .f32) (harg3 : arg3.IsWhole) (arg4 : Memref sig .tc .vmem S1x4096x4 .f32) (harg4 : arg4.IsWhole) (arg5 : Memref sig .tc .vmem S1x3x4096 .f32) (harg5 : arg5.IsWhole) (arg6 : Memref sig .tc .vmem S1x1x128 .f32) (harg6 : arg6.IsWhole)
    (x0 : Vec F S1x4096x4 .f32) (x1 : Vec F S1x3x4096 .f32) (x2 : Vec F S1x4096x4 .f32) (x3 : Vec F S1x3x4096 .f32) (xo4 : Vec F S1x1x128 .f32)

/-- The block's rows in the whole array of points. -/
def rowsIn (x : Vec F S1x4096x4 .f32) : Vec F S1x256x3 .f32 :=
  View.ld x (Rect.unit (s := S1x4096x4) (k0_off1 i) S1x256x3.size (k0_off1_inb i))

/-- What point `i` leaves, from the blocks it reads and what it found. -/
def pointOut : Vec F S1x1x128 .f32 :=
  blockOut (sqDists i x1 (rowsIn i x0)) (sqDists i x3 (rowsIn i x2))
    (vecs (ptsOf x0) (rowsOf (rowsIn i x0)) (sqDists i x1 (rowsIn i x0)))
    (vecs (ptsOf x2) (rowsOf (rowsIn i x2)) (sqDists i x3 (rowsIn i x2))) xo4

set_option maxHeartbeats 4000000 in
theorem out_B (hc0 : ¬cond0_0 i) :
    out0_B_4 c i arg2 harg2 arg3 harg3 arg4 harg4 arg5 harg5 arg6 harg6 hc0 x0 x1 x2 x3 xo4 = pointOut i x0 x1 x2 x3 xo4 := by
  frame_out
  simp only [pay4, pay49, pay5, pay50, pay6, pay7, pay8, pay51, pay52, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40, pay41, pay42, pay43, pay44, pay45, pay46, pay47, pay48, pay53, pay54, pay55, pay56, pay57, pay58, pay59, pay60, pay61, pay62, pay63, pay64, pay65, pay66, pay67, pay68, pay69, pay70, pay71, pay72, pay73, pay74, pay75, pay76, pay77, pay78, pay79, pay80, pay81, pay82, pay83, pay84, pay85, pay86, pay87, pay88, pay89, pay90, pay91, pay92, pay93, pay94, pay95, pay96, pay97, pay98, pay99, pay100, pay101, pay102, pay103, pay104, pay105, pay106, pay107, pay108, pay109, pay110, pay111, pay112, pay113, pay114, pay115, pay116, pay117, pay118, pay119, pay120, pay121, pay122, pay123, pay124, pay125, pay126, pay127, pay128, pay129, pay130, pay131, pay132, pay133, pay134, pay135, pay136, pay137, pay138, pay139, pay140, pay141, pay142, pay143, pay144, pay145, pay146, pay147, pay148, pay149, pay150, pay151, pay152, pay153, pay154, pay155, pay156, pay157, pay158, pay159, pay160, pay161, pay162, pay163, pay164, pay165, pay166, pay167, pay168, pay169, pay170, pay171, pay172, pay173, pay174, pay175, pay176, pay177, pay178, pay179, pay180, pay181, pay182, pay183, pay184, pay185, pay186, pay187, pay188, pay189, pay190, pay191, pay192, pay193, pay194, pay195, pay196, pay197, pay198, pay199, pay200, pay201, pay202, pay203, pay204, pay205, pay206, pay207, pay208, pay209, pay210, pay211, pay212, pay213, pay214, pay215, pay216, pay217, pay218, pay219, pay220, pay221, pay222, pay223, pay224, pay225, pay226, pay227, pay228, pay229, pay230, pay231, pay232, pay233, pay234, pay235, pay236, pay237, pay238, pay239, pay240, pay241, pay242, pay243, pay244, pay245, pay246]
  rfl

set_option maxHeartbeats 4000000 in
theorem out_A (hc0 : cond0_0 i) :
    out0_A_4 c i arg2 harg2 arg3 harg3 arg4 harg4 arg5 harg5 arg6 harg6 hc0 x0 x1 x2 x3 = pointOut i x0 x1 x2 x3 k0_pay2 := by
  frame_out
  simp only [pay4, pay49, pay5, pay50, pay6, pay7, pay8, pay51, pay52, pay9, pay10, pay11, pay12, pay13, pay14, pay15, pay16, pay17, pay18, pay19, pay20, pay21, pay22, pay23, pay24, pay25, pay26, pay27, pay28, pay29, pay30, pay31, pay32, pay33, pay34, pay35, pay36, pay37, pay38, pay39, pay40, pay41, pay42, pay43, pay44, pay45, pay46, pay47, pay48, pay53, pay54, pay55, pay56, pay57, pay58, pay59, pay60, pay61, pay62, pay63, pay64, pay65, pay66, pay67, pay68, pay69, pay70, pay71, pay72, pay73, pay74, pay75, pay76, pay77, pay78, pay79, pay80, pay81, pay82, pay83, pay84, pay85, pay86, pay87, pay88, pay89, pay90, pay91, pay92, pay93, pay94, pay95, pay96, pay97, pay98, pay99, pay100, pay101, pay102, pay103, pay104, pay105, pay106, pay107, pay108, pay109, pay110, pay111, pay112, pay113, pay114, pay115, pay116, pay117, pay118, pay119, pay120, pay121, pay122, pay123, pay124, pay125, pay126, pay127, pay128, pay129, pay130, pay131, pay132, pay133, pay134, pay135, pay136, pay137, pay138, pay139, pay140, pay141, pay142, pay143, pay144, pay145, pay146, pay147, pay148, pay149, pay150, pay151, pay152, pay153, pay154, pay155, pay156, pay157, pay158, pay159, pay160, pay161, pay162, pay163, pay164, pay165, pay166, pay167, pay168, pay169, pay170, pay171, pay172, pay173, pay174, pay175, pay176, pay177, pay178, pay179, pay180, pay181, pay182, pay183, pay184, pay185, pay186, pay187, pay188, pay189, pay190, pay191, pay192, pay193, pay194, pay195, pay196, pay197, pay198, pay199, pay200, pay201, pay202, pay203, pay204, pay205, pay206, pay207, pay208, pay209, pay210, pay211, pay212, pay213, pay214, pay215, pay216, pay217, pay218, pay219, pay220, pay221, pay222, pay223, pay224, pay225, pay226, pay227, pay228, pay229, pay230, pay231, pay232, pay233, pay234, pay235, pay236, pay237, pay238, pay239, pay240, pay241, pay242, pay243, pay244, pay245, pay246]
  rfl

end Cert.KernelIdeal.Loss

end
-- ==== Proof.RowMath.lean ====
/- The mathematics of one point's neighbours, over the reals: the squared distances of a point to the others, its eight
   nearest in order, the rounds that take the nearest left and put it to the top, and the three terms of the loss. -/
module

public import Idealize.ShloMosaic.Lib.Pointwise
public import Idealize.ShloMosaic.Lib.IdealHost

@[expose] public section

noncomputable section

namespace Cert.KnnLoss

open Idealize.ShloMosaic

/-! ## The constants -/

/-- The small number the programs keep lengths off zero with. -/
def eps : ℝ := (Ideal.ofBits .f32 0x2B8CBCCC#32).toReal

theorem eps_and : Ideal.ofBits .f32 0x2B8CBCCC#32 = (eps : EReal) ∧ 0 < eps := by
  have h : ∃ r : ℝ, 0 < r ∧ Ideal.ofBits .f32 0x2B8CBCCC#32 = (r : EReal) := by
    refine ⟨(1 * (2 ^ 23 + 834764 : ℕ) * (2 : ℝ) ^ ((87 : ℤ) - 127 - 23)), by positivity, ?_⟩
    simp [Ideal.ofBits, Ideal.ieee, -EReal.coe_mul]
  obtain ⟨r, hr, he⟩ := h
  have : eps = r := by rw [eps, he, EReal.toReal_coe]
  rw [this]; exact ⟨he, hr⟩

theorem ofBits_eps : Ideal.ofBits .f32 0x2B8CBCCC#32 = (eps : EReal) := eps_and.1
theorem eps_pos : 0 < eps := eps_and.2

theorem ofBits_inf : Ideal.ofBits .f32 0x7F800000#32 = ⊤ := by simp [Ideal.ofBits, Ideal.ieee]
theorem ofBits_two : Ideal.ofBits .f32 0x40000000#32 = ((2 : ℝ) : EReal) := by
  simp [Ideal.ofBits, Ideal.ieee, -EReal.coe_mul]; norm_num
theorem ofBits_eighth : Ideal.ofBits .f32 0x3E000000#32 = ((1 / 8 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_four : Ideal.ofBits .f32 0x40800000#32 = ((4 : ℝ) : EReal) := by
  simp [Ideal.ofBits, Ideal.ieee, -EReal.coe_mul]; norm_num
theorem ofBits_eight : Ideal.ofBits .f32 0x41000000#32 = ((8 : ℝ) : EReal) := by
  simp [Ideal.ofBits, Ideal.ieee, -EReal.coe_mul]; norm_num
theorem ofBits_points : Ideal.ofBits .f32 0x45800000#32 = ((4096 : ℝ) : EReal) := by
  simp [Ideal.ofBits, Ideal.ieee, -EReal.coe_mul]; norm_num
theorem ofBits_pairs : Ideal.ofBits .f32 0x47000000#32 = ((32768 : ℝ) : EReal) := by
  simp [Ideal.ofBits, Ideal.ieee, -EReal.coe_mul]; norm_num

/-! ## Reals among the extended reals -/

theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem coe_div {y : ℝ} (h : y ≠ 0) (x : ℝ) : Ideal.div (x : EReal) (y : EReal) = ((x / y : ℝ) : EReal) := by
  rw [Ideal.div_coe h, ← EReal.coe_mul]; congr 1; ring

theorem coe_sqrt {x : ℝ} (h : 0 ≤ x) : Ideal.sqrt (x : EReal) = ((Real.sqrt x : ℝ) : EReal) := by
  rw [Ideal.sqrt_coe, if_neg (not_lt.mpr h)]

theorem coe_max (x y : ℝ) : max (x : EReal) (y : EReal) = ((max x y : ℝ) : EReal) :=
  (EReal.coe_strictMono.monotone.map_max).symm

/-! ## One point and its eight nearest -/

variable (x : Fin 4096 → Fin 3 → ℝ) (R : Fin 4096) (p : ℕ → Fin 4096)

/-- The squared distance of two points, as the programs write it. -/
def sqd (i j : Fin 4096) : ℝ := (∑ c, x i c * x i c) + (∑ c, x j c * x j c) - 2 * ∑ c, x i c * x j c

theorem sqd_eq (i j : Fin 4096) : sqd x i j = ∑ c, (x i c - x j c) ^ 2 := by
  simp only [sqd, Fin.sum_univ_three]; ring

theorem sqd_self (i : Fin 4096) : sqd x i i = 0 := by simp [sqd_eq]

/-- `p` lists the eight other points nearest to `R`, nearest first, no two equally far, none closer than the small number. -/
structure Picks : Prop where
  ne : ∀ k < 8, p k ≠ R
  lo : eps < sqd x R (p 0)
  inc : ∀ k, k + 1 < 8 → sqd x R (p k) < sqd x R (p (k + 1))
  rest : ∀ j, j ≠ R → (∀ k < 8, p k ≠ j) → sqd x R (p 7) < sqd x R j

variable {x R p}

theorem Picks.lt (h : Picks x R p) {k l : ℕ} (hkl : k < l) (hl : l < 8) : sqd x R (p k) < sqd x R (p l) := by
  induction l with
  | zero => omega
  | succ l ih =>
    rcases Nat.lt_succ_iff_lt_or_eq.mp hkl with h1 | rfl
    · exact (ih h1 (by omega)).trans (h.inc l hl)
    · exact h.inc k hl

theorem Picks.eps_lt (h : Picks x R p) {k : ℕ} (hk : k < 8) : eps < sqd x R (p k) := by
  rcases Nat.eq_zero_or_pos k with rfl | h0
  · exact h.lo
  · exact h.lo.trans (h.lt h0 hk)

theorem Picks.inj (h : Picks x R p) {k l : ℕ} (hk : k < 8) (hl : l < 8) (he : p k = p l) : k = l := by
  by_contra hne
  rcases Nat.lt_or_gt_of_ne hne with h1 | h1
  · exact absurd (congrArg (sqd x R) he) (h.lt h1 hl).ne
  · exact absurd (congrArg (sqd x R) he) (h.lt h1 hk).ne'

/-- Of the points not yet taken the `k`-th is strictly the nearest. -/
theorem Picks.nearest (h : Picks x R p) {k : ℕ} (hk : k < 8) {j : Fin 4096} (hj : j ≠ R) (hl : ∀ l < k, p l ≠ j) (hn : j ≠ p k) :
    sqd x R (p k) < sqd x R j := by
  by_cases he : ∃ l < 8, p l = j
  · obtain ⟨l, hl8, rfl⟩ := he
    have h1 : ¬ l < k := fun h' => hl l h' rfl
    have h2 : l ≠ k := fun h' => hn (by rw [h'])
    exact h.lt (by omega) hl8
  · have hr := h.rest j hj (fun l hl8 hp => he ⟨l, hl8, hp⟩)
    rcases Nat.lt_or_ge k 7 with h7 | h7
    · exact (h.lt h7 (by norm_num)).trans hr
    · obtain rfl : k = 7 := by omega
      exact hr

variable (x R p)

/-- `j` is out of the running before round `k`: the point itself, or taken in an earlier round. -/
def Gone (k : ℕ) (j : Fin 4096) : Prop := j = R ∨ ∃ l < k, p l = j

open Classical in
/-- The squared distances before round `k`, those out of the running at the top. -/
def state (k : ℕ) (j : Fin 4096) : EReal := if Gone R p k j then ⊤ else (sqd x R j : EReal)

open Classical in
theorem state_zero (j : Fin 4096) : state x R p 0 j = if j = R then ⊤ else (sqd x R j : EReal) := by
  simp [state, Gone]

variable {x R p}

theorem not_gone (h : Picks x R p) {k : ℕ} (hk : k < 8) : ¬ Gone R p k (p k) := by
  rintro (he | ⟨l, hl, he⟩)
  · exact h.ne k hk he
  · exact absurd (h.inj (by omega) hk he) (by omega)

theorem state_pick (h : Picks x R p) {k : ℕ} (hk : k < 8) : state x R p k (p k) = (sqd x R (p k) : EReal) :=
  if_neg (not_gone h hk)

theorem state_lt (h : Picks x R p) {k : ℕ} (hk : k < 8) {j : Fin 4096} (hj : j ≠ p k) :
    (sqd x R (p k) : EReal) < state x R p k j := by
  classical
  unfold state
  split_ifs with hg
  · exact EReal.coe_lt_top _
  · rw [EReal.coe_lt_coe_iff]
    exact h.nearest hk (fun he => hg (.inl he)) (fun l hl he => hg (.inr ⟨l, hl, he⟩)) hj

/-- The least of them. -/
theorem fold_state (h : Picks x R p) {k : ℕ} (hk : k < 8) :
    Finset.univ.fold min ⊤ (state x R p k) = (sqd x R (p k) : EReal) := by
  apply le_antisymm
  · exact Finset.fold_min_le _ |>.mpr (.inr ⟨p k, Finset.mem_univ _, (state_pick h hk).le⟩)
  · refine Finset.le_fold_min _ |>.mpr ⟨le_top, fun j _ => ?_⟩
    by_cases hj : j = p k
    · rw [hj, state_pick h hk]
    · exact (state_lt h hk hj).le

/-- It is met at the `k`-th neighbour alone. -/
theorem state_eq_iff (h : Picks x R p) {k : ℕ} (hk : k < 8) (j : Fin 4096) :
    state x R p k j = (sqd x R (p k) : EReal) ↔ j = p k := by
  refine ⟨fun he => ?_, fun he => by rw [he, state_pick h hk]⟩
  by_contra hj
  exact (state_lt h hk hj).ne' he

/-- A round puts that one to the top. -/
theorem state_succ (h : Picks x R p) {k : ℕ} (hk : k < 8) (j : Fin 4096) :
    state x R p k j + (if j = p k then 1 else 0) * ⊤ = state x R p (k + 1) j := by
  classical
  by_cases hj : j = p k
  · rw [if_pos hj, one_mul, hj, state_pick h hk, EReal.coe_add_top, state, if_pos (show Gone R p (k + 1) (p k) from .inr ⟨k, by omega, rfl⟩)]
  · rw [if_neg hj, zero_mul, add_zero, state, state]
    have : Gone R p k j ↔ Gone R p (k + 1) j := by
      constructor
      · rintro (he | ⟨l, hl, he⟩)
        · exact .inl he
        · exact .inr ⟨l, by omega, he⟩
      · rintro (he | ⟨l, hl, he⟩)
        · exact .inl he
        · rcases Nat.lt_succ_iff_lt_or_eq.mp hl with h1 | rfl
          · exact .inr ⟨l, h1, he⟩
          · exact absurd he.symm hj
    simp only [this]

/-! ## The three terms -/

variable (x R p)

/-- The mean of the eight distances. -/
def dens : ℝ := (∑ k : Fin 8, Real.sqrt (sqd x R (p k))) / 8

/-- The vector to the `k`-th neighbour. -/
def vec (k : ℕ) (c : Fin 3) : ℝ := x (p k) c - x R c

/-- A vector's length, kept off zero. -/
def len (a : Fin 3 → ℝ) : ℝ := max (Real.sqrt (∑ c, a c * a c)) eps

theorem len_eq (a : Fin 3 → ℝ) : len a = max (Real.sqrt (∑ c, a c * a c)) eps := rfl

theorem len_pos (a : Fin 3 → ℝ) : 0 < len a := lt_max_of_lt_right eps_pos

/-- The cosine of two vectors. -/
def cosine (a b : Fin 3 → ℝ) : ℝ := ∑ c, a c / len a * (b c / len b)

/-- An entry of the neighbours' covariance. -/
def cov (v : ℕ → Fin 3 → ℝ) (a b : Fin 3) : ℝ := (∑ k : Fin 8, v k a * v k b) / 8

variable (y : Fin 4096 → Fin 3 → ℝ) (q : ℕ → Fin 4096)

def rowDens : ℝ := (dens x R p - dens y R q) * (dens x R p - dens y R q)
def rowSim : ℝ := ∑ k : Fin 8, cosine (vec x R p k) (vec y R q k)
def rowCov : ℝ := Real.sqrt (∑ a, ∑ b, (cov (vec x R p) a b - cov (vec y R q) a b) * (cov (vec x R p) a b - cov (vec y R q) a b))

/-- The covariances' distance from the six different entries of the sums. -/
theorem rowCov_eq (v w : ℕ → Fin 3 → ℝ) (s t : Fin 3 → Fin 3 → ℝ) (hs : ∀ a b, s a b = ∑ k : Fin 8, v k a * v k b)
    (ht : ∀ a b, t a b = ∑ k : Fin 8, w k a * w k b) :
    Real.sqrt ((s 0 0 - t 0 0) * (s 0 0 - t 0 0) + (s 1 1 - t 1 1) * (s 1 1 - t 1 1) + (s 2 2 - t 2 2) * (s 2 2 - t 2 2)
        + 2 * ((s 0 1 - t 0 1) * (s 0 1 - t 0 1) + (s 0 2 - t 0 2) * (s 0 2 - t 0 2) + (s 1 2 - t 1 2) * (s 1 2 - t 1 2))) * (1 / 8)
      = Real.sqrt (∑ a, ∑ b, (cov v a b - cov w a b) * (cov v a b - cov w a b)) := by
  have hsym : ∀ a b, s a b = s b a := fun a b => by rw [hs, hs]; exact Finset.sum_congr rfl fun k _ => mul_comm _ _
  have htym : ∀ a b, t a b = t b a := fun a b => by rw [ht, ht]; exact Finset.sum_congr rfl fun k _ => mul_comm _ _
  have hc : ∀ a b, cov v a b - cov w a b = (s a b - t a b) / 8 := fun a b => by rw [cov, cov, ← hs, ← ht]; ring
  simp only [hc, Fin.sum_univ_three]
  rw [hsym 1 0, hsym 2 0, hsym 2 1, htym 1 0, htym 2 0, htym 2 1]
  have h8 : (1 / 8 : ℝ) = Real.sqrt (1 / 64) := by
    rw [show (1 / 64 : ℝ) = (1 / 8) ^ 2 by norm_num, Real.sqrt_sq (by norm_num)]
  rw [h8, ← Real.sqrt_mul' _ (by norm_num)]
  congr 1; ring

end Cert.KnnLoss

end
-- ==== Proof.KRow.lean ====
/- One row of the kernel's block over the extended reals, for a point whose coordinates are reals and whose eight nearest
   are known: what each round takes, and the row's three terms. -/
module

public import proofs.«01_k».proof.Proof.KModel
public import proofs.«01_k».proof.Proof.RowMath

@[expose] public section

noncomputable section

namespace Cert.KernelIdeal.Loss

open Idealize.ShloMosaic Idealize.ShloMosaic.TcCoe Idealize.SL.Sem
open Cert.KernelIdeal Cert.KernelIdeal.Gen Cert.KnnLoss

/-! ## The pieces read at a row -/

theorem named_big : (Named.named κ "big" 0x7149F2CA#32 : Ideal .f32) = ⊤ := by
  change (κ "big").getD (Ideal.ofBits .f32 0x7149F2CA#32) = ⊤
  rw [show κ "big" = some (⊤ : EReal) from rfl]
  rfl

theorem rowMin_apply (d : FVec Ideal S256x4096 .f32) (r : Fin 256) :
    rowMin d (ix2 r 0) = Finset.univ.fold min (⊤ : EReal) fun j => d (ix2 r j) := by
  pointwise [rowMin, rowMin0]
  rw [ofBits_inf]

theorem hits_apply (d : FVec Ideal S256x4096 .f32) (r : Fin 256) (j : Fin 4096) :
    hits d (ix2 r j) = if d (ix2 r j) = rowMin d (ix2 r 0) then (1 : EReal) else 0 := by
  pointwise [hits, isMin, ones, zeros]

theorem next_apply (d : FVec Ideal S256x4096 .f32) (r : Fin 256) (j : Fin 4096) :
    next d (ix2 r j) = (d (ix2 r j) + hits d (ix2 r j) * ⊤ : EReal) := by
  pointwise [next, bigs]
  rw [named_big]

theorem distOf_apply (d : FVec Ideal S256x4096 .f32) (r : Fin 256) :
    distOf d (ix2 r 0) = Ideal.sqrt (max (rowMin d (ix2 r 0)) (eps : EReal)) := by
  pointwise [distOf]
  rw [ofBits_eps]

theorem nbrOf_apply (xa : FVec Ideal S4096x4 .f32) (d : FVec Ideal S256x4096 .f32) (r : Fin 256) (c : Fin 3) :
    nbrOf xa d (ix2 r c) = ((∑ j : Fin 4096, hits d (ix2 r j) * xa (ix2 j ⟨c.val, by omega⟩))
      * Ideal.div 1 (∑ j : Fin 4096, hits d (ix2 r j) * xa (ix2 j 3)) : EReal) := by
  pointwise [nbrOf, gathered3, gathered1, spread, gathered]

theorem vecs_apply (xa : FVec Ideal S4096x4 .f32) (xb : FVec Ideal S256x3 .f32) (d : FVec Ideal S256x4096 .f32) (k : ℕ)
    (r : Fin 256) (c : Fin 3) :
    vecs xa xb d k (ix2 r c) = (nbrOf xa (rounds d k) (ix2 r c) - xb (ix2 r c) : EReal) := by
  pointwise [vecs]

theorem cosOf_apply (v w : FVec Ideal S256x3 .f32) (r : Fin 256) :
    cosOf v w (ix2 r 0) = (∑ c : Fin 3,
      Ideal.div (v (ix2 r c)) (max (Ideal.sqrt (∑ c : Fin 3, v (ix2 r c) * v (ix2 r c))) (eps : EReal))
        * Ideal.div (w (ix2 r c)) (max (Ideal.sqrt (∑ c : Fin 3, w (ix2 r c) * w (ix2 r c))) (eps : EReal)) : EReal) := by
  pointwise [cosOf, rowSum, unitOf, spread, lenOf, sq]
  rw [ofBits_eps]

theorem col_apply (a : Fin 3) (v : FVec Ideal S256x3 .f32) (r : Fin 256) : col a v (ix2 r 0) = v (ix2 r a) := by
  match a with
  | 0 => pointwise [col]
  | 1 => pointwise [col]
  | 2 => pointwise [col]

theorem prods_apply (v : ℕ → FVec Ideal S256x3 .f32) (a b : Fin 3) (k : ℕ) (r : Fin 256) :
    prods v a b k (ix2 r 0) = (v k (ix2 r a) * v k (ix2 r b) : EReal) := by
  show (col a (v k) (ix2 r 0) * col b (v k) (ix2 r 0) : EReal) = _
  rw [col_apply, col_apply]

theorem total_apply (v : FVec Ideal S256x1 .f32) : total v (ix2 0 0) = (∑ r : Fin 256, v (ix2 r 0) : EReal) := by
  pointwise [total]

theorem eighth_apply (v : FVec Ideal S256x1 .f32) (r : Fin 256) : eighth v (ix2 r 0) = (v (ix2 r 0) * ((1 / 8 : ℝ) : EReal) : EReal) := by
  pointwise [eighth]
  rw [ofBits_eighth]

theorem sqDiff_apply (v w : FVec Ideal S256x1 .f32) (r : Fin 256) :
    sqDiff v w (ix2 r 0) = ((v (ix2 r 0) - w (ix2 r 0)) * (v (ix2 r 0) - w (ix2 r 0)) : EReal) := by
  pointwise [sqDiff]

theorem covNorm_apply (p t : ℕ → FVec Ideal S256x3 .f32) (r : Fin 256) :
    covNorm p t (ix2 r 0) = (Ideal.sqrt (covDiff p t 0 0 (ix2 r 0) + covDiff p t 1 1 (ix2 r 0) + covDiff p t 2 2 (ix2 r 0)
      + ((2 : ℝ) : EReal) * (covDiff p t 0 1 (ix2 r 0) + covDiff p t 0 2 (ix2 r 0) + covDiff p t 1 2 (ix2 r 0))) * ((1 / 8 : ℝ) : EReal) : EReal) := by
  rw [covNorm, eighth_apply]
  pointwise
  rw [ofBits_two]

/-- Columns of reals add up to the real sum. -/
theorem sumTo_apply (f : ℕ → FVec Ideal S256x1 .f32) (g : ℕ → ℝ) (r : Fin 256) (n : ℕ)
    (h : ∀ k < n, f k (ix2 r 0) = ((g k : ℝ) : EReal)) :
    sumTo f n (ix2 r 0) = ((∑ k : Fin n, g k : ℝ) : EReal) := by
  induction n with
  | zero => pointwise [sumTo, zcol]; simp
  | succ n ih =>
    rw [Fin.sum_univ_castSucc]
    show (sumTo f n (ix2 r 0) + f n (ix2 r 0) : EReal) = _
    rw [ih fun k hk => h k (by omega), h n (by omega), ← EReal.coe_add]; rfl

/-! ## The row -/

section Row

variable {x : Fin 4096 → Fin 3 → ℝ} {R : Fin 4096} {p : ℕ → Fin 4096} {r : Fin 256} {d : FVec Ideal S256x4096 .f32}
  {xa : FVec Ideal S4096x4 .f32} {xb : FVec Ideal S256x3 .f32}

/-- A block's row `r` is point `R`: its squared distances, the diagonal at the top, the points with a one beside them,
    and the row's own coordinates. -/
structure IsRow (x : Fin 4096 → Fin 3 → ℝ) (R : Fin 4096) (r : Fin 256) (d : FVec Ideal S256x4096 .f32)
    (xa : FVec Ideal S4096x4 .f32) (xb : FVec Ideal S256x3 .f32) : Prop where
  dist : ∀ j, d (ix2 r j) = state x R (fun _ => R) 0 j
  pts : ∀ (j : Fin 4096) (c : Fin 3), xa (ix2 j ⟨c.val, by omega⟩) = ((x j c : ℝ) : EReal)
  one : ∀ j : Fin 4096, xa (ix2 j 3) = (1 : EReal)
  own : ∀ c, xb (ix2 r c) = ((x R c : ℝ) : EReal)

theorem rowMin_of (hp : Picks x R p) {e : FVec Ideal S256x4096 .f32} {k : ℕ} (hk : k < 8)
    (he : ∀ j, e (ix2 r j) = state x R p k j) : rowMin e (ix2 r 0) = (sqd x R (p k) : EReal) := by
  rw [rowMin_apply, ← fold_state hp hk]
  simp only [he]

theorem hits_of (hp : Picks x R p) {e : FVec Ideal S256x4096 .f32} {k : ℕ} (hk : k < 8)
    (he : ∀ j, e (ix2 r j) = state x R p k j) (j : Fin 4096) : hits e (ix2 r j) = if j = p k then (1 : EReal) else 0 := by
  rw [hits_apply, rowMin_of hp hk he, he]
  simp only [state_eq_iff hp hk]

theorem rounds_of (hr : IsRow x R r d xa xb) (hp : Picks x R p) (k : ℕ) (hk : k ≤ 8) (j : Fin 4096) :
    rounds d k (ix2 r j) = state x R p k j := by
  induction k generalizing j with
  | zero => rw [show rounds d 0 = d from rfl, hr.dist, state_zero, state_zero]
  | succ k ih =>
    show next (rounds d k) (ix2 r j) = _
    rw [next_apply, hits_of hp (by omega) (ih (by omega)), ih (by omega), state_succ hp (by omega)]

theorem dists_of (hr : IsRow x R r d xa xb) (hp : Picks x R p) {k : ℕ} (hk : k < 8) :
    dists d k (ix2 r 0) = ((Real.sqrt (sqd x R (p k)) : ℝ) : EReal) := by
  rw [dists, distOf_apply, rowMin_of hp hk (rounds_of hr hp k hk.le), coe_max, max_eq_left (hp.eps_lt hk).le,
    coe_sqrt (eps_pos.trans (hp.eps_lt hk)).le]

theorem sum_hits (hr : IsRow x R r d xa xb) (hp : Picks x R p) {k : ℕ} (hk : k < 8) (f : Fin 4096 → EReal) :
    (∑ j, hits (rounds d k) (ix2 r j) * f j : EReal) = f (p k) := by
  simp only [hits_of hp hk (rounds_of hr hp k hk.le)]
  rw [Finset.sum_eq_single (p k)]
  · rw [if_pos rfl, one_mul]
  · intro j _ hj; rw [if_neg hj, zero_mul]
  · intro h; exact absurd (Finset.mem_univ _) h

theorem vecs_of (hr : IsRow x R r d xa xb) (hp : Picks x R p) {k : ℕ} (hk : k < 8) (c : Fin 3) :
    vecs xa xb d k (ix2 r c) = ((vec x R p k c : ℝ) : EReal) := by
  rw [vecs_apply, nbrOf_apply, sum_hits hr hp hk (fun j => xa (ix2 j ⟨c.val, by omega⟩)), sum_hits hr hp hk (fun j => xa (ix2 j 3)),
    hr.pts, hr.one, hr.own, ← EReal.coe_one, coe_div one_ne_zero, ← EReal.coe_mul, ← EReal.coe_sub, vec]
  norm_num

theorem cosOf_of {v w : FVec Ideal S256x3 .f32} {a b : Fin 3 → ℝ} (hv : ∀ c, v (ix2 r c) = ((a c : ℝ) : EReal))
    (hw : ∀ c, w (ix2 r c) = ((b c : ℝ) : EReal)) : cosOf v w (ix2 r 0) = ((cosine a b : ℝ) : EReal) := by
  rw [cosOf_apply]
  simp only [hv, hw, ← EReal.coe_mul, coe_sum]
  rw [coe_sqrt (Finset.sum_nonneg fun c _ => mul_self_nonneg _), coe_sqrt (Finset.sum_nonneg fun c _ => mul_self_nonneg _), coe_max, coe_max]
  simp only [← len_eq, coe_div (len_pos a).ne', coe_div (len_pos b).ne', ← EReal.coe_mul, coe_sum]
  rfl

end Row

section Rows

variable {x y : Fin 4096 → Fin 3 → ℝ} {R : Fin 4096} {p q : ℕ → Fin 4096} {r : Fin 256} {d e : FVec Ideal S256x4096 .f32}
  {xa ya : FVec Ideal S4096x4 .f32} {xb yb : FVec Ideal S256x3 .f32}

theorem dens_of (hr : IsRow x R r d xa xb) (hp : Picks x R p) (hs : IsRow y R r e ya yb) (hq : Picks y R q) :
    sqDiff (eighth (sumTo (dists d) 8)) (eighth (sumTo (dists e) 8)) (ix2 r 0) = ((rowDens x R p y q : ℝ) : EReal) := by
  rw [sqDiff_apply, eighth_apply, eighth_apply, sumTo_apply _ _ r 8 fun k hk => dists_of hr hp hk,
    sumTo_apply _ _ r 8 fun k hk => dists_of hs hq hk]
  simp only [← EReal.coe_mul, ← EReal.coe_sub]
  rw [rowDens, dens, dens]; congr 1; ring

theorem sim_of (hr : IsRow x R r d xa xb) (hp : Picks x R p) (hs : IsRow y R r e ya yb) (hq : Picks y R q) :
    sumTo (cosines (vecs xa xb d) (vecs ya yb e)) 8 (ix2 r 0) = ((rowSim x R p y q : ℝ) : EReal) :=
  sumTo_apply _ (fun k => cosine (vec x R p k) (vec y R q k)) r 8 fun k hk => cosOf_of (vecs_of hr hp hk) (vecs_of hs hq hk)

theorem covSum_of (hr : IsRow x R r d xa xb) (hp : Picks x R p) (a b : Fin 3) :
    sumTo (prods (vecs xa xb d) a b) 8 (ix2 r 0) = ((∑ k : Fin 8, vec x R p k a * vec x R p k b : ℝ) : EReal) :=
  sumTo_apply _ (fun k => vec x R p k a * vec x R p k b) r 8 fun k hk => by
    rw [prods_apply, vecs_of hr hp hk, vecs_of hr hp hk, EReal.coe_mul]

theorem cov_of (hr : IsRow x R r d xa xb) (hp : Picks x R p) (hs : IsRow y R r e ya yb) (hq : Picks y R q) :
    covNorm (vecs xa xb d) (vecs ya yb e) (ix2 r 0) = ((rowCov x R p y q : ℝ) : EReal) := by
  rw [covNorm_apply]
  simp only [covDiff, sqDiff_apply, covSum_of hr hp, covSum_of hs hq, ← EReal.coe_mul, ← EReal.coe_sub, ← EReal.coe_add]
  rw [coe_sqrt, ← EReal.coe_mul, rowCov_eq (vec x R p) (vec y R q) (fun a b => ∑ k : Fin 8, vec x R p k a * vec x R p k b)
    (fun a b => ∑ k : Fin 8, vec y R q k a * vec y R q k b) (fun _ _ => rfl) (fun _ _ => rfl), rowCov]
  have := fun a : ℝ => mul_self_nonneg a
  refine add_nonneg (add_nonneg (add_nonneg ?_ ?_) ?_) (mul_nonneg (by norm_num) (add_nonneg (add_nonneg ?_ ?_) ?_)) <;> exact this _

end Rows

/-! ## The block -/

section Block

variable {x y : Fin 4096 → Fin 3 → ℝ} {R : Fin 256 → Fin 4096} {p q : Fin 4096 → ℕ → Fin 4096} {d e : FVec Ideal S256x4096 .f32}
  {xa ya : FVec Ideal S4096x4 .f32} {xb yb : FVec Ideal S256x3 .f32}
  (hr : ∀ r, IsRow x (R r) r d xa xb) (hs : ∀ r, IsRow y (R r) r e ya yb) (hp : ∀ i, Picks x i (p i)) (hq : ∀ i, Picks y i (q i))

include hr hs hp hq

theorem densTotal_of : densTotal d e (ix2 0 0) = ((∑ r, rowDens x (R r) (p (R r)) y (q (R r)) : ℝ) : EReal) := by
  rw [densTotal, total_apply, ← coe_sum]
  exact Finset.sum_congr rfl fun r _ => dens_of (hr r) (hp _) (hs r) (hq _)

theorem simTotal_of : simTotal (vecs xa xb d) (vecs ya yb e) (ix2 0 0) = ((∑ r, rowSim x (R r) (p (R r)) y (q (R r)) : ℝ) : EReal) := by
  rw [simTotal, total_apply, ← coe_sum]
  exact Finset.sum_congr rfl fun r _ => sim_of (hr r) (hp _) (hs r) (hq _)

theorem covTotal_of : covTotal (vecs xa xb d) (vecs ya yb e) (ix2 0 0) = ((∑ r, rowCov x (R r) (p (R r)) y (q (R r)) : ℝ) : EReal) := by
  rw [covTotal, total_apply, ← coe_sum]
  exact Finset.sum_congr rfl fun r _ => cov_of (hr r) (hp _) (hs r) (hq _)

end Block

end Cert.KernelIdeal.Loss

end
-- ==== Proof.KIn.lean ====
/- What the kernel's body reads: the arrays the host builds before the launch, the blocks a grid point reads of them, and
   what a point's block of rows is over reals. -/
module

public import proofs.«01_k».proof.Proof.KRow
public import proofs.«01_k».proof.Proof.Gen.KernelIdeal.Frame
public import Idealize.ShloMosaic.Lib.Pipeline.ValueKit
public import Idealize.ShloMosaic.Lib.Claim
public import Idealize.ShloMosaic.Lib.StableHlo.Run
public import Idealize.ShloMosaic.Lib.Tactic

@[expose] public section

noncomputable section

open Idealize.ShloMosaic Idealize.ShloMosaic.TcCoe Idealize.SL.Sem
open Idealize.ShloMosaic.Pipeline (Dat)

namespace Cert.KernelIdeal.Loss

open Cert.KernelIdeal Cert.KernelIdeal.Gen Cert.KnnLoss

variable (m : (ℓ : Loc nD τ sig) → Buf (Elt Ideal) ℓ)

theorem idx : ∀ t : Fin cfg0.N, win0_0.index t = ![t.val / 16, 0, 0] ∧ win0_1.index t = ![t.val / 16, 0, 0]
    ∧ win0_2.index t = ![t.val / 16, 0, 0] ∧ win0_3.index t = ![t.val / 16, 0, 0]
    ∧ win0_4.index t = ![t.val / 16, 0, 0] ∧ ((grid0.coords t) 1).val = t.val % 16 :=
  (by decide +kernel : ∀ t : Fin grid0.N, _)

/-- A cloud with a one appended to every point, as the host hands it over. -/
def withOnes (x : FVec Ideal S4x4096x3 .f32) : FVec Ideal S4x4096x4 .f32 :=
  concatenate S4x4096x4 2 [⟨S4x4096x3, x⟩, ⟨S4x4096x1, broadcastInDim S4x4096x1 ![] bcast_S_S4x4096x1 (constant (F := Ideal) S_ .f32 0x3F800000#32)⟩] concatenates_S4x4096x3_S4x4096x1_S4x4096x4_d2

/-- A cloud with its coordinates first, as the host hands it over. -/
def turned (x : FVec Ideal S4x4096x3 .f32) : FVec Ideal S4x3x4096 .f32 :=
  transpose S4x3x4096 [0, 2, 1] x transposes_S4x4096x3_S4x3x4096_0_2_1

theorem V_v1 (c : Dev nD) : V m c main_v1 = withOnes (m ((c : Thread nD τ).loc main_arg0)) := by
  show StableHlo.after ([hostOps0].flatten) (fun b => m (c, b)) (Proc.devRef .tc main_v1) = _
  rw [show ([hostOps0 (F := Ideal)].flatten) = hostOps0 from List.append_nil _]
  unfold_abbrev_sides
  after_results
  rfl

theorem V_v2 (c : Dev nD) : V m c main_v2 = withOnes (m ((c : Thread nD τ).loc main_arg1)) := by
  show StableHlo.after ([hostOps0].flatten) (fun b => m (c, b)) (Proc.devRef .tc main_v2) = _
  rw [show ([hostOps0 (F := Ideal)].flatten) = hostOps0 from List.append_nil _]
  unfold_abbrev_sides
  after_results
  rfl

theorem V_v3 (c : Dev nD) : V m c main_v3 = turned (m ((c : Thread nD τ).loc main_arg0)) := by
  show StableHlo.after ([hostOps0].flatten) (fun b => m (c, b)) (Proc.devRef .tc main_v3) = _
  rw [show ([hostOps0 (F := Ideal)].flatten) = hostOps0 from List.append_nil _]
  unfold_abbrev_sides
  after_results
  rfl

theorem V_v4 (c : Dev nD) : V m c main_v4 = turned (m ((c : Thread nD τ).loc main_arg1)) := by
  show StableHlo.after ([hostOps0].flatten) (fun b => m (c, b)) (Proc.devRef .tc main_v4) = _
  rw [show ([hostOps0 (F := Ideal)].flatten) = hostOps0 from List.append_nil _]
  unfold_abbrev_sides
  after_results
  rfl

theorem withOnes_lt (x : FVec Ideal S4x4096x3 .f32) (b : Fin 4) (j : Fin 4096) (k : Fin 3) :
    withOnes x (ix3 b j ⟨k.val, by omega⟩) = x (ix3 b j k) := by
  pointwise [withOnes]

theorem withOnes_one (x : FVec Ideal S4x4096x3 .f32) (b : Fin 4) (j : Fin 4096) :
    withOnes x (ix3 b j 3) = 1 := by
  pointwise [withOnes]

theorem turned_apply (x : FVec Ideal S4x4096x3 .f32) (b : Fin 4) (j : Fin 4096) (k : Fin 3) :
    turned x (ix3 b k j) = x (ix3 b j k) := by
  pointwise [turned]

theorem iblk_0_lt (c : Dev nD) (t : Fin cfg0.N) (b : Fin 4) (hb : b.val = t.val / 16) (j : Fin 4096) (k : Fin 3) :
    iblk m c 0 t (ix3 0 j ⟨k.val, by omega⟩) = m ((c : Thread nD τ).loc main_arg0) (ix3 b j k) := by
  have e := idx t
  have : iblk m c 0 t (ix3 0 j ⟨k.val, by omega⟩) = V m c main_v1 (ix3 b j ⟨k.val, by omega⟩) := by blk_ext [iblk, idx t]
  rw [this, V_v1]
  exact withOnes_lt _ b j k

theorem iblk_0_one (c : Dev nD) (t : Fin cfg0.N) (b : Fin 4) (hb : b.val = t.val / 16) (j : Fin 4096) :
    iblk m c 0 t (ix3 0 j 3) = (1 : EReal) := by
  have e := idx t
  have : iblk m c 0 t (ix3 0 j 3) = V m c main_v1 (ix3 b j 3) := by blk_ext [iblk, idx t]
  rw [this, V_v1]
  exact withOnes_one _ b j

theorem iblk_1_at (c : Dev nD) (t : Fin cfg0.N) (b : Fin 4) (hb : b.val = t.val / 16) (j : Fin 4096) (k : Fin 3) :
    iblk m c 1 t (ix3 0 k j) = m ((c : Thread nD τ).loc main_arg0) (ix3 b j k) := by
  have e := idx t
  have : iblk m c 1 t (ix3 0 k j) = V m c main_v3 (ix3 b k j) := by blk_ext [iblk, idx t]
  rw [this, V_v3]
  exact turned_apply _ b j k

theorem iblk_2_lt (c : Dev nD) (t : Fin cfg0.N) (b : Fin 4) (hb : b.val = t.val / 16) (j : Fin 4096) (k : Fin 3) :
    iblk m c 2 t (ix3 0 j ⟨k.val, by omega⟩) = m ((c : Thread nD τ).loc main_arg1) (ix3 b j k) := by
  have e := idx t
  have : iblk m c 2 t (ix3 0 j ⟨k.val, by omega⟩) = V m c main_v2 (ix3 b j ⟨k.val, by omega⟩) := by blk_ext [iblk, idx t]
  rw [this, V_v2]
  exact withOnes_lt _ b j k

theorem iblk_2_one (c : Dev nD) (t : Fin cfg0.N) (b : Fin 4) (hb : b.val = t.val / 16) (j : Fin 4096) :
    iblk m c 2 t (ix3 0 j 3) = (1 : EReal) := by
  have e := idx t
  have : iblk m c 2 t (ix3 0 j 3) = V m c main_v2 (ix3 b j 3) := by blk_ext [iblk, idx t]
  rw [this, V_v2]
  exact withOnes_one _ b j

theorem iblk_3_at (c : Dev nD) (t : Fin cfg0.N) (b : Fin 4) (hb : b.val = t.val / 16) (j : Fin 4096) (k : Fin 3) :
    iblk m c 3 t (ix3 0 k j) = m ((c : Thread nD τ).loc main_arg1) (ix3 b j k) := by
  have e := idx t
  have : iblk m c 3 t (ix3 0 k j) = V m c main_v4 (ix3 b k j) := by blk_ext [iblk, idx t]
  rw [this, V_v4]
  exact turned_apply _ b j k

/-! ## A point's rows -/

theorem start_word (n : Fin 16) :
    BitVec.toNat (Scalar.indexCast (Scalar.muli (BitVec.ofNat 32 n.val) 256#32)) = 256 * n.val := by
  revert n; decide +kernel

theorem row_word (n : Fin 16) (r : Fin 256) :
    IntOp.addi (Scalar.muli (BitVec.ofNat 32 n.val) 256#32) (BitVec.ofNat 32 r.val) = BitVec.ofNat 32 (256 * n.val + r.val) := by
  apply BitVec.eq_of_toNat_eq
  have h : BitVec.toNat (Scalar.muli (BitVec.ofNat 32 n.val) 256#32) = 256 * n.val := start_word n
  show BitVec.toNat (_ + _) = _
  rw [BitVec.toNat_add, h]
  simp

section Rows

variable {i : grid0.Coords} {x : Vec Ideal S1x4096x4 .f32} {xT : Vec Ideal S1x3x4096 .f32} {X : Fin 4096 → Fin 3 → ℝ}
variable {r : Fin 256} {R : Fin 4096}

theorem sqDists_at (hR : R.val = 256 * (i 1).val + r.val)
    (hx : ∀ (j : Fin 4096) (k : Fin 3), x (ix3 0 j ⟨k.val, by omega⟩) = ((X j k : ℝ) : EReal))
    (hT : ∀ (j : Fin 4096) (k : Fin 3), xT (ix3 0 k j) = ((X j k : ℝ) : EReal)) (j : Fin 4096) :
    sqDists i xT (rowsIn i x) (ix2 r j) = state X R (fun _ => R) 0 j := by
  pointwise [sqDists, k0_pay6, k0_pay3, k0_pay5, rowsIn, k0_off1]
  have hn : BitVec.toNat (Scalar.indexCast (Scalar.muli (BitVec.ofNat 32 (i 1).val) 256#32)) = 256 * (i 1).val := start_word (i 1)
  have e : ∀ (h : _) (k : Fin 3), x (ix3 0 ⟨BitVec.toNat (Scalar.indexCast (Scalar.muli (BitVec.ofNat 32 (i 1).val) 256#32)) + r.val, h⟩ ⟨k.val, by omega⟩)
      = ((X R k : ℝ) : EReal) := fun h k => by
    rw [← hx]; congr 2; apply Fin.ext; simp only [hn]; omega
  simp only [e, hT, row_word (i 1) r]
  rw [state_zero, ← hR, named_big]
  rw [show IntOp.cmpi .eq (BitVec.ofNat 32 j.val) (BitVec.ofNat 32 R.val) = BitVec.ofBool (decide (j = R)) from by
    have hj := j.isLt
    have hr := R.isLt
    have : (j = R) ↔ j.val = R.val := Fin.ext_iff
    simp only [this]
    word_cmp]
  by_cases h : j = R
  · rw [if_pos h, decide_eq_true h]; rfl
  · rw [if_neg h, decide_eq_false h, ofBits_two, sqd]
    simp only [← EReal.coe_mul, coe_sum, ← EReal.coe_add, ← EReal.coe_sub]
    rfl

theorem rowsOf_at (hR : R.val = 256 * (i 1).val + r.val)
    (hx : ∀ (j : Fin 4096) (k : Fin 3), x (ix3 0 j ⟨k.val, by omega⟩) = ((X j k : ℝ) : EReal)) (k : Fin 3) :
    rowsOf (rowsIn i x) (ix2 r k) = ((X R k : ℝ) : EReal) := by
  pointwise [rowsOf, rowsIn, k0_off1]
  have hn : BitVec.toNat (Scalar.indexCast (Scalar.muli (BitVec.ofNat 32 (i 1).val) 256#32)) = 256 * (i 1).val := start_word (i 1)
  rw [← hx]; congr 2; apply Fin.ext; simp only [hn]; omega

theorem isRow_at (hR : R.val = 256 * (i 1).val + r.val)
    (hx : ∀ (j : Fin 4096) (k : Fin 3), x (ix3 0 j ⟨k.val, by omega⟩) = ((X j k : ℝ) : EReal))
    (h1 : ∀ j : Fin 4096, x (ix3 0 j 3) = (1 : EReal))
    (hT : ∀ (j : Fin 4096) (k : Fin 3), xT (ix3 0 k j) = ((X j k : ℝ) : EReal)) :
    IsRow X R r (sqDists i xT (rowsIn i x)) (ptsOf x) (rowsOf (rowsIn i x)) where
  dist := sqDists_at hR hx hT
  pts j k := by pointwise [ptsOf]; exact hx j k
  one j := by pointwise [ptsOf]; exact h1 j
  own := rowsOf_at hR hx

end Rows

end Cert.KernelIdeal.Loss
-- ==== Proof.Loss.lean ====
/- The loss over reals: the four batches' means of the rows' terms, as the reference orders them and as the kernel does. -/
module

public import proofs.«01_k».proof.Proof.RowMath

@[expose] public section

noncomputable section

namespace Cert.KnnLoss

variable (X Y : Fin 4 → Fin 4096 → Fin 3 → ℝ) (p q : Fin 4 → Fin 4096 → ℕ → Fin 4096)

/-- The three terms of a row of batch `b`. -/
def term (b : Fin 4) (i : Fin 4096) : Fin 3 → ℝ :=
  ![rowDens (X b) i (p b i) (Y b) (q b i), rowSim (X b) i (p b i) (Y b) (q b i), rowCov (X b) i (p b i) (Y b) (q b i)]

/-- The loss: per batch the mean density term, half of one minus the mean cosine, half of the mean covariance term. -/
def loss : ℝ :=
  (∑ b, ((∑ i, term X Y p q b i 0) / 4096 + 1 / 2 * (1 - (∑ i, term X Y p q b i 1) / 32768)
    + 1 / 2 * ((∑ i, term X Y p q b i 2) / 4096))) / 4

theorem loss_eq : loss X Y p q =
    ((∑ b, ∑ i, term X Y p q b i 0) / 4096 + 1 / 2 * (4 - (∑ b, ∑ i, term X Y p q b i 1) / 32768)
      + (1 - 1 / 2) * (∑ b, ∑ i, term X Y p q b i 2) / 4096) / 4 := by
  simp only [loss, Fin.sum_univ_four]
  ring

/-- A sum over the points is the sum over sixteen blocks of 256 rows. -/
theorem sum_blocks (g : Fin 4096 → ℝ) :
    (∑ k ∈ Finset.range 16, ∑ r : Fin 256, g ⟨(256 * (k % 16) + r.val), by omega⟩) = ∑ i, g i := by
  rw [Finset.sum_range, ← (finProdFinEquiv (m := 16) (n := 256)).sum_comp g, Fintype.sum_prod_type]
  refine Finset.sum_congr rfl fun k _ => Finset.sum_congr rfl fun r _ => congrArg g (Fin.ext ?_)
  show 256 * (k.val % 16) + r.val = r.val + 256 * k.val
  have := k.isLt
  omega

end Cert.KnnLoss
-- ==== Proof.KOut.lean ====
/- What the kernel's output array holds after the run, and what the host makes of it: over reals, the loss. -/
module

public import proofs.«01_k».proof.Proof.KIn
public import proofs.«01_k».proof.Proof.Loss
public import Idealize.ShloMosaic.Lib.Tactic.CleanTypes

@[expose] public section

noncomputable section

open Idealize.ShloMosaic Idealize.ShloMosaic.TcCoe Idealize.SL.Sem
open Idealize.ShloMosaic.Pipeline (Dat)

namespace Cert.KernelIdeal.Loss

open Cert.KernelIdeal Cert.KernelIdeal.Gen Cert.KnnLoss

theorem lanes (A B C : EReal) (l : Fin 3) :
    Scalar.select (IntOp.cmpi .eq (BitVec.ofNat 32 l.val) 0#32) A 0 + Scalar.select (IntOp.cmpi .eq (BitVec.ofNat 32 l.val) 1#32) B 0
      + Scalar.select (IntOp.cmpi .eq (BitVec.ofNat 32 l.val) 2#32) C 0 = ![A, B, C] l := by
  fin_cases l
  · show A + 0 + 0 = A
    rw [add_zero, add_zero]
  · show 0 + B + 0 = B
    rw [add_zero, zero_add]
  · show (0 : EReal) + 0 + C = C
    rw [add_zero, zero_add]

theorem blockOut_at (d e : FVec Ideal S256x4096 .f32) (p t : ℕ → FVec Ideal S256x3 .f32) (xo : Vec Ideal S1x1x128 .f32) (l : Fin 3) :
    blockOut d e p t xo (ix3 0 0 ⟨l.val, by omega⟩)
      = xo (ix3 0 0 ⟨l.val, by omega⟩) + ![densTotal d e (ix2 0 0), simTotal p t (ix2 0 0), covTotal p t (ix2 0 0)] l := by
  pointwise [blockOut, k0_pay1, k0_pay247]
  generalize densTotal d e (ix2 0 0) = A
  generalize simTotal p t (ix2 0 0) = B
  generalize covTotal p t (ix2 0 0) = C
  generalize xo (ix3 0 0 ⟨l.val, by omega⟩) = o
  exact congrArg (o + ·) (lanes A B C l)

theorem zero_at (l : Fin 128) : (k0_pay2 (F := Ideal)) (ix3 0 0 l) = (0 : EReal) := by
  pointwise [k0_pay2]

variable (m : (ℓ : Loc nD τ sig) → Buf (Elt Ideal) ℓ)

section Reals

variable {m} {X Y : Fin 4 → Fin 4096 → Fin 3 → ℝ} {p q : Fin 4 → Fin 4096 → ℕ → Fin 4096} {c : Dev nD}

/-- The batch of the grid's point `n`. -/
def batchOf (n : ℕ) : Fin 4 := ⟨n / 16 % 4, by omega⟩

/-- Row `r` of the grid's point `n`. -/
def rowAt (n : ℕ) (r : Fin 256) : Fin 4096 := ⟨256 * (n % 16) + r.val, by omega⟩

variable (hX : ∀ b i k, m ((c : Thread nD τ).loc main_arg0) (ix3 b i k) = ((X b i k : ℝ) : EReal))
variable (hY : ∀ b i k, m ((c : Thread nD τ).loc main_arg1) (ix3 b i k) = ((Y b i k : ℝ) : EReal))
variable (hp : ∀ b i, Picks (X b) i (p b i)) (hq : ∀ b i, Picks (Y b) i (q b i))

include hX hY hp hq

theorem pointOut_at (t : Fin cfg0.N) (xo : Vec Ideal S1x1x128 .f32) (l : Fin 3) :
    pointOut (grid0.coords t) (iblk m c 0 t) (iblk m c 1 t) (iblk m c 2 t) (iblk m c 3 t) xo (ix3 0 0 ⟨l.val, by omega⟩)
      = xo (ix3 0 0 ⟨l.val, by omega⟩) + ((∑ r, term X Y p q (batchOf t.val) (rowAt t.val r) l : ℝ) : EReal) := by
  have hN : t.val < 64 := t.isLt
  have hb : (batchOf t.val).val = t.val / 16 := by show t.val / 16 % 4 = _; omega
  have hR : ∀ r : Fin 256, (rowAt t.val r).val = 256 * ((grid0.coords t) 1).val + r.val := fun r => by
    rw [(idx t).2.2.2.2.2]; rfl
  have h1 : ∀ r, IsRow (X (batchOf t.val)) (rowAt t.val r) r (sqDists (grid0.coords t) (iblk m c 1 t) (rowsIn (grid0.coords t) (iblk m c 0 t)))
      (ptsOf (iblk m c 0 t)) (rowsOf (rowsIn (grid0.coords t) (iblk m c 0 t))) := fun r =>
    isRow_at (hR r) (fun j k => (iblk_0_lt m c t _ hb j k).trans (hX _ _ _)) (fun j => iblk_0_one m c t _ hb j)
      (fun j k => (iblk_1_at m c t _ hb j k).trans (hX _ _ _))
  have h2 : ∀ r, IsRow (Y (batchOf t.val)) (rowAt t.val r) r (sqDists (grid0.coords t) (iblk m c 3 t) (rowsIn (grid0.coords t) (iblk m c 2 t)))
      (ptsOf (iblk m c 2 t)) (rowsOf (rowsIn (grid0.coords t) (iblk m c 2 t))) := fun r =>
    isRow_at (hR r) (fun j k => (iblk_2_lt m c t _ hb j k).trans (hY _ _ _)) (fun j => iblk_2_one m c t _ hb j)
      (fun j k => (iblk_3_at m c t _ hb j k).trans (hY _ _ _))
  rw [pointOut, blockOut_at]
  refine congrArg (_ + ·) ?_
  rw [densTotal_of h1 h2 (hp _) (hq _), simTotal_of h1 h2 (hp _) (hq _), covTotal_of h1 h2 (hp _) (hq _)]
  fin_cases l <;> rfl

theorem outsAt_at (t : Fin cfg0.N) (l : Fin 3) (ht : t.val % 16 = 15) :
    outsAt0 m c t.val t.isLt (ix3 0 0 ⟨l.val, by omega⟩) = ((∑ i, term X Y p q (batchOf t.val) i l : ℝ) : EReal) := by
  have hN : t.val < 64 := t.isLt
  rw [Pipeline.eq_sum_of_reset_step_of_mod (fun n h => outsAt0 m c n h (ix3 0 0 ⟨l.val, by omega⟩)) 16 (0 : EReal)
    (fun n => ((∑ r, term X Y p q (batchOf n) (rowAt n r) l : ℝ) : EReal))
    (fun t h0 => by
      rw [outsAt0_A m c t h0, out_A, pointOut_at hX hY hp hq, zero_at])
    (fun t h0 => by
      rw [outsAt0_B m c t h0, out_B, pointOut_at hX hY hp hq])
    t ht, zero_add, coe_sum, ← sum_blocks]
  refine congrArg _ (Finset.sum_congr rfl fun k hk => Finset.sum_congr rfl fun r _ => ?_)
  have hk := Finset.mem_range.mp hk
  have e1 : batchOf (16 * (t.val / 16) + k) = batchOf t.val := Fin.ext (by show (16 * (t.val / 16) + k) / 16 % 4 = t.val / 16 % 4; omega)
  have e2 : rowAt (16 * (t.val / 16) + k) r = ⟨256 * (k % 16) + r.val, by omega⟩ :=
    Fin.ext (by show 256 * ((16 * (t.val / 16) + k) % 16) + r.val = 256 * (k % 16) + r.val; omega)
  rw [e1, e2]

end Reals

/-- The output array after the run: row `b` is what the batch's last point leaves. -/
def outArr (c : Dev nD) : FVec Ideal S4x1x128 .f32 := fun j =>
  outsAt0 m c (16 * (j 0).val + 15) (by have : (j 0).val < 4 := (j 0).isLt; show _ < 64; omega) (ix3 0 0 (j 2))

theorem arr_out (c : Dev nD) : (dats m 0 c).arrAt 4 cfg0.N = outArr m c := by
  refine (dats m 0 c).arrAt_eq_of_covers 4 _ (by decide +kernel) fun t hf y => ?_
  blk_simp
  rw [after0_4]
  have h15 := (flush0_4 t).mp hf
  have e := (idx t).2.2.2.2.1
  have hb : (((win0_4.blk t).view.emb y) 0).val = t.val / 16 := by
    blk_simp [e]
  have key : ∀ (n : ℕ) (h : n < cfg0.N) (j : S1x1x128.Idx), n = t.val → j = y → outsAt0 m c t.val t.isLt y = outsAt0 m c n h j := by
    rintro n h j rfl rfl; rfl
  refine key _ _ _ (by rw [hb]; omega) ?_
  blk_ext [e]

theorem tail_v23 (c : Dev nD) (o : FVec Ideal S4x1x128 .f32) (ho : (dats m 0 c).arrAt 4 cfg0.N = o)
    (f : Fin 4 → Fin 3 → ℝ) (hf : ∀ b (l : Fin 3), o (ix3 b 0 ⟨l.val, by omega⟩) = ((f b l : ℝ) : EReal)) :
    Pipeline.afterTail₀ cfgs (dats m) 0 (V0 m) [hostOps1] c main_v23 = fun _ =>
      ((((∑ b, f b 0) / 4096 + 1 / 2 * (4 - (∑ b, f b 1) / 32768) + (1 - 1 / 2) * (∑ b, f b 2) / 4096) / 4 : ℝ) : EReal) := by
  unfold Pipeline.afterTail₀
  rw [show ([hostOps1 (F := Ideal)].flatten) = hostOps1 from List.append_nil _]
  unfold_abbrev_sides
  after_results
  have hw : (Pipeline.withArrays (cfgs 0).spec c (V0 m c) (fun w => (dats m 0 c).arrAt w (cfgs 0).N)
      (Proc.tc.devRef main_v5)) = o :=
    (Pipeline.withArrays_arr (cfgs 0).spec (by decide) c (V0 m c) (fun w => (dats m 0 c).arrAt w (cfgs 0).N) 4).trans ho
  rw [hw]
  clean_types
  funext i
  pointwise
  have h0 : ∀ b, o (ix3 b 0 0) = ((f b 0 : ℝ) : EReal) := fun b => hf b 0
  have h1 : ∀ b, o (ix3 b 0 1) = ((f b 1 : ℝ) : EReal) := fun b => hf b 1
  have h2 : ∀ b, o (ix3 b 0 2) = ((f b 2 : ℝ) : EReal) := fun b => hf b 2
  simp only [h0, h1, h2, coe_sum, ofBits_points, ofBits_half, ofBits_four, ofBits_pairs]
  rw [coe_div (by norm_num), coe_div (by norm_num), ← EReal.coe_one, ← EReal.coe_sub, ← EReal.coe_sub, ← EReal.coe_mul, ← EReal.coe_mul,
    coe_div (by norm_num), ← EReal.coe_add, ← EReal.coe_add, coe_div (by norm_num)]

/-- What the kernel's program leaves in its result, over reals whose rows' nearest points are known. -/
theorem result_at {X Y : Fin 4 → Fin 4096 → Fin 3 → ℝ} {p q : Fin 4 → Fin 4096 → ℕ → Fin 4096} {c : Dev nD}
    (hX : ∀ b i k, m ((c : Thread nD τ).loc main_arg0) (ix3 b i k) = ((X b i k : ℝ) : EReal))
    (hY : ∀ b i k, m ((c : Thread nD τ).loc main_arg1) (ix3 b i k) = ((Y b i k : ℝ) : EReal))
    (hp : ∀ b i, Picks (X b) i (p b i)) (hq : ∀ b i, Picks (Y b) i (q b i)) :
    Pipeline.afterTail₀ cfgs (dats m) 0 (V0 m) [hostOps1] c main_v23 = fun _ => ((loss X Y p q : ℝ) : EReal) := by
  rw [loss_eq]
  exact tail_v23 m c _ (arr_out m c) (fun b l => ∑ i, term X Y p q b i l) fun b l => by
    have ht : 16 * b.val + 15 < cfg0.N := by have := b.isLt; show _ < 64; omega
    have h := outsAt_at hX hY hp hq ⟨16 * b.val + 15, ht⟩ l (by show (16 * b.val + 15) % 16 = 15; omega)
    have e : batchOf (16 * b.val + 15) = b := Fin.ext (by show (16 * b.val + 15) / 16 % 4 = b.val; omega)
    simp only [e] at h
    exact h

end Cert.KernelIdeal.Loss
-- ==== Proof.Sorted.lean ====
/- The top-k of a [4, 4096, 4096] array along its last axis, read at an index: the row sorted, greatest first. -/
module

public import Idealize.ShloMosaic.Lib.SortFacts
public import Idealize.ShloMosaic.Lib.Pointwise
public import Idealize.ShloMosaic.PureOps

@[expose] public section

noncomputable section

namespace Cert.KnnLoss

open Idealize.ShloMosaic

variable {N : ℕ}

/-- The positions of `g` in the order of a stable sort, greatest first. -/
def order (g : Fin N → EReal) : Fin N → Fin N :=
  sortedFrom (fun a b => Ideal.cmpTotal .gt (g a) (g b) == 1#1)

theorem cmp_gt (a b : EReal) : (Ideal.cmpTotal .gt a b == 1#1) = decide (b < a) := by
  show (BitVec.ofBool (decide (a > b)) == 1#1) = _
  by_cases h : b < a
  · rw [decide_eq_true h]; rfl
  · rw [decide_eq_false h]; rfl

theorem order_injective (g : Fin N → EReal) : Function.Injective (order g) := sortedFrom_injective _

theorem order_surjective (g : Fin N → EReal) : Function.Surjective (order g) := sortedFrom_surjective _

theorem order_le (g : Fin N → EReal) {a b : Fin N} (h : a < b) : g (order g b) ≤ g (order g a) := by
  have this : (Ideal.cmpTotal .gt (g (order g b)) (g (order g a)) == 1#1) = false := sortedFrom_noInversion (fun a b => Ideal.cmpTotal .gt (g a) (g b) == 1#1) (fun a b => Ideal.cmpTotal .gt (g a) (g b) == 1#1)
    (fun a b => by simp only [cmp_gt, decide_eq_true_eq, decide_eq_false_iff_not]; exact fun h => not_lt.mpr h.le)
    (fun a b h => h)
    (fun a b c => by simp only [cmp_gt, decide_eq_false_iff_not, not_lt]; exact fun h1 h2 => h1.trans h2) a b h
  rw [cmp_gt, decide_eq_false_iff_not, not_lt] at this
  exact this

section Top

variable {A K : ℕ}

theorem along_last (j : (⟨3, ![A, N, N]⟩ : Shape).Idx) (k : Fin N) :
    Shape.Idx.along (s := ⟨3, ![A, N, N]⟩) j (2 : Fin 3) k = ix3 (j 0) (j 1) k := by
  funext a
  fin_cases a <;> rfl

variable (x : (⟨3, ![A, N, N]⟩ : Shape).Idx → EReal)
variable (h : (⟨3, ![A, N, N]⟩ : Shape).Slices (fun _ => 0) ⟨3, ![A, N, K]⟩)

theorem topK_eq (hK : K ≤ N) (b : Fin A) (i : Fin N) (k : Fin K) :
    (Host.topK (α := EReal) ⟨3, ![A, N, K]⟩ 2 (Ideal.cmpTotal .gt) x h).1 (ix3 b i k)
      = x (ix3 b i (order (fun j => x (ix3 b i j)) ⟨k.val, by omega⟩))
    ∧ (Host.topK (α := EReal) ⟨3, ![A, N, K]⟩ 2 (Ideal.cmpTotal .gt) x h).2 (ix3 b i k)
      = BitVec.ofNat 32 (order (fun j => x (ix3 b i j)) ⟨k.val, by omega⟩).val := by
  have e : ∀ y : (⟨3, ![A, N, N]⟩ : Shape).Idx → BitVec 32, ∀ j,
      (Host.sort2 ⟨3, ![A, N, N]⟩ 2 (fun l r => Ideal.cmpTotal .gt l.1 r.1) x y).1 j
        = x (ix3 (j 0) (j 1) (order (fun l => x (ix3 (j 0) (j 1) l)) (j 2)))
      ∧ (Host.sort2 ⟨3, ![A, N, N]⟩ 2 (fun l r => Ideal.cmpTotal .gt l.1 r.1) x y).2 j
        = y (ix3 (j 0) (j 1) (order (fun l => x (ix3 (j 0) (j 1) l)) (j 2))) := fun y j => by
    unfold Host.sort2
    rw [dif_pos (show 2 < 3 by decide)]
    have hπ : (fun k k' : Fin N => Ideal.cmpTotal .gt (x (Shape.Idx.along (s := ⟨3, ![A, N, N]⟩) j (2 : Fin 3) k))
          (x (Shape.Idx.along (s := ⟨3, ![A, N, N]⟩) j (2 : Fin 3) k')) == 1#1)
        = fun k k' => Ideal.cmpTotal .gt (x (ix3 (j 0) (j 1) k)) (x (ix3 (j 0) (j 1) k')) == 1#1 :=
      funext fun k => funext fun k' => by rw [along_last j k, along_last j k']; rfl
    have hi : Shape.Idx.along (s := ⟨3, ![A, N, N]⟩) j (2 : Fin 3)
        (sortedFrom (fun k k' : Fin N => Ideal.cmpTotal .gt (x (Shape.Idx.along (s := ⟨3, ![A, N, N]⟩) j (2 : Fin 3) k))
          (x (Shape.Idx.along (s := ⟨3, ![A, N, N]⟩) j (2 : Fin 3) k')) == 1#1) (j 2))
        = ix3 (j 0) (j 1) (order (fun l => x (ix3 (j 0) (j 1) l)) (j 2)) :=
      (along_last j _).trans (congrArg (fun f : Fin N → Fin N → Bool => ix3 (j 0) (j 1) (sortedFrom f (j 2))) hπ)
    exact ⟨congrArg x hi, congrArg y hi⟩
  have s : ∀ {β : Type} (v : (⟨3, ![A, N, N]⟩ : Shape).Idx → β),
      extractStridedSlice ⟨3, ![A, N, K]⟩ (fun _ => 0) v h (ix3 b i k) = v (ix3 b i ⟨k.val, by omega⟩) := fun v => by
    unfold extractStridedSlice
    congr 1
    funext a
    apply Fin.ext
    fin_cases a <;> simp <;> rfl
  unfold Host.topK
  dsimp only
  rw [s, s, (e _ _).1, (e _ _).2]
  exact ⟨rfl, rfl⟩

end Top

end Cert.KnnLoss
-- ==== Proof.Near.lean ====
/- The precondition's content: when, in every row, the ten greatest negated distances are strictly decreasing, every
   coordinate is a real and the second to ninth positions of the sorted row are the eight nearest other points. -/
module

public import proofs.«01_k».proof.Proof.RowMath
public import proofs.«01_k».proof.Proof.Sorted

@[expose] public section

noncomputable section

namespace Cert.KnnLoss

open Idealize.ShloMosaic

/-- The negated distance from point `i` to point `j`, its square computed from the norms and the product. -/
def far (g : Fin 4096 → Fin 3 → EReal) (i j : Fin 4096) : EReal :=
  -(Ideal.sqrt (max ((∑ c, g i c * g i c) + (∑ c, g j c * g j c) - Ideal.ofBits .f32 0x40000000#32 * ∑ c, g i c * g j c)
    (Ideal.ofBits .f32 0x2B8CBCCC#32)))

/-- The point at place `k` of row `i`'s order. -/
def pick (g : Fin 4096 → Fin 3 → EReal) (i : Fin 4096) (k : ℕ) : Fin 4096 := order (far g i) ⟨k % 4096, by omega⟩

/-- The first ten of every row are strictly apart. -/
def Apart (g : Fin 4096 → Fin 3 → EReal) : Prop := ∀ i, ∀ k < 9, far g i (pick g i (k + 1)) < far g i (pick g i k)

section Finite

variable {g : Fin 4096 → Fin 3 → EReal}

theorem mul_self_nonneg' (a : EReal) : 0 ≤ a * a := by
  induction a using EReal.rec with
  | bot => simp
  | top => simp
  | coe r => rw [← EReal.coe_mul]; exact_mod_cast mul_self_nonneg r

theorem norm_nonneg' (j : Fin 4096) : 0 ≤ ∑ c, g j c * g j c := Finset.sum_nonneg fun c _ => mul_self_nonneg' _

theorem norm_top {i : Fin 4096} {c : Fin 3} (h : g i c = ⊤ ∨ g i c = ⊥) : ∑ c, g i c * g i c = ⊤ := by
  have h1 : g i c * g i c = ⊤ := by rcases h with h | h <;> rw [h] <;> simp
  have h2 : g i c * g i c ≤ ∑ c, g i c * g i c :=
    Finset.single_le_sum (f := fun c => g i c * g i c) (fun c _ => mul_self_nonneg' _) (Finset.mem_univ c)
  exact top_le_iff.mp (h1 ▸ h2)

theorem far_of_infinite {i : Fin 4096} {c : Fin 3} (h : g i c = ⊤ ∨ g i c = ⊥) (j : Fin 4096) :
    far g i j = -(Ideal.sqrt ⊤) ∨ far g i j = -(Ideal.sqrt (Ideal.ofBits .f32 0x2B8CBCCC#32)) := by
  have hj : (∑ c, g i c * g i c) + (∑ c, g j c * g j c) = ⊤ := by
    rw [norm_top h]
    exact EReal.top_add_of_ne_bot fun e => by have := norm_nonneg' (g := g) j; rw [e] at this; simp at this
  rw [far, hj]
  generalize Ideal.ofBits .f32 0x40000000#32 * ∑ c, g i c * g j c = w
  by_cases hw : w = ⊤
  · right
    rw [hw, show (⊤ : EReal) - ⊤ = ⊥ from by simp, max_eq_right bot_le]
  · left
    rw [show (⊤ : EReal) - w = ⊤ from EReal.top_sub hw, max_eq_left le_top]

theorem real_of_apart (h : Apart g) (i : Fin 4096) (c : Fin 3) : ∃ r : ℝ, g i c = (r : EReal) := by
  by_contra hn
  have hi : g i c = ⊤ ∨ g i c = ⊥ := by
    generalize g i c = a at hn ⊢
    induction a using EReal.rec with
    | bot => exact Or.inr rfl
    | top => exact Or.inl rfl
    | coe r => exact absurd ⟨r, rfl⟩ hn
  have h0 := h i 0 (by norm_num)
  have h1 := h i 1 (by norm_num)
  rcases far_of_infinite hi (pick g i 0) with a | a <;> rcases far_of_infinite hi (pick g i 1) with b | b <;>
    rcases far_of_infinite hi (pick g i 2) with d | d <;> simp only [zero_add, Nat.reduceAdd, a, b, d] at h0 h1 <;>
    first | exact absurd h0 (lt_irrefl _) | exact absurd h1 (lt_irrefl _) | exact absurd (h0.trans h1) (lt_irrefl _)

end Finite

section Real

variable {g : Fin 4096 → Fin 3 → EReal} {X : Fin 4096 → Fin 3 → ℝ} (hg : ∀ i c, g i c = ((X i c : ℝ) : EReal))

include hg

theorem far_coe (i j : Fin 4096) : far g i j = ((-√(max (sqd X i j) eps) : ℝ) : EReal) := by
  rw [far, ofBits_two, ofBits_eps, sqd]
  simp only [hg, ← EReal.coe_mul, coe_sum, ← EReal.coe_add, ← EReal.coe_sub]
  rw [coe_max, coe_sqrt (le_max_of_le_right eps_pos.le), ← EReal.coe_neg]

theorem far_lt_iff (i a b : Fin 4096) : far g i a < far g i b ↔ max (sqd X i b) eps < max (sqd X i a) eps := by
  rw [far_coe hg, far_coe hg, EReal.coe_lt_coe_iff, neg_lt_neg_iff, Real.sqrt_lt_sqrt_iff (le_max_of_le_right eps_pos.le)]

theorem picks_of_apart (h : Apart g) (i : Fin 4096) : Picks X i (fun k => pick g i (k + 1)) := by
  have hlt : ∀ k < 9, max (sqd X i (pick g i k)) eps < max (sqd X i (pick g i (k + 1))) eps := fun k hk =>
    (far_lt_iff hg i _ _).mp (h i k hk)
  have hle : ∀ a b : Fin 4096, a ≤ b → max (sqd X i (order (far g i) a)) eps ≤ max (sqd X i (order (far g i) b)) eps := by
    intro a b hab
    rcases hab.eq_or_lt with rfl | hab
    · exact le_rfl
    · exact not_lt.mp fun hc => not_lt.mpr (order_le (far g i) hab) ((far_lt_iff hg i _ _).mpr hc)
  have key : ∀ {s u : ℝ}, max s eps < max u eps → s < u := fun {s u} hsu => by
    rcases lt_max_iff.mp hsu with h1 | h1
    · exact (le_max_left _ _).trans_lt h1
    · exact absurd ((le_max_right _ _).trans_lt h1) (lt_irrefl _)
  have hself : max (sqd X i i) eps = eps := by rw [sqd_self]; exact max_eq_right eps_pos.le
  have hfirst : pick g i 0 = i := by
    obtain ⟨a, ha⟩ := order_surjective (far g i) i
    by_cases h0 : a.val = 0
    · exact (congrArg (order (far g i)) (Fin.ext (by show 0 % 4096 = a.val; rw [h0]))).trans ha
    · have h1 := hlt 0 (by norm_num)
      have h2 := hle ⟨1 % 4096, by omega⟩ a (by show 1 % 4096 ≤ a.val; omega)
      rw [ha, hself] at h2
      exact absurd ((le_max_right _ _).trans_lt (h1.trans_le h2)) (lt_irrefl _)
  have hinj : ∀ a b, a < 4096 → b < 4096 → pick g i a = pick g i b → a = b := fun a b ha hb hab => by
    have := congrArg Fin.val (order_injective (far g i) hab)
    simp only at this
    omega
  refine ⟨fun k hk e => ?_, ?_, fun k hk => key (hlt (k + 1) (by omega)), fun j hj hn => ?_⟩
  · have := hinj (k + 1) 0 (by omega) (by omega) (e.trans hfirst.symm)
    omega
  · have h1 := hlt 0 (by norm_num)
    rw [hfirst, hself] at h1
    exact (lt_max_iff.mp h1).resolve_right (lt_irrefl _)
  · obtain ⟨a, ha⟩ := order_surjective (far g i) j
    have e : pick g i a.val = j :=
      (congrArg (order (far g i)) (Fin.ext (Nat.mod_eq_of_lt a.isLt))).trans ha
    have h9 : 9 ≤ a.val := by
      by_contra hc
      rcases Nat.eq_zero_or_pos a.val with h0 | h0
      · rw [h0, hfirst] at e; exact hj e.symm
      · exact hn (a.val - 1) (by omega) (by show pick g i (a.val - 1 + 1) = j; rw [Nat.sub_add_cancel h0]; exact e)
    refine key ((hlt 8 (by norm_num)).trans_le ?_)
    have := hle ⟨9 % 4096, by omega⟩ a (by show 9 % 4096 ≤ a.val; omega)
    rw [ha] at this
    exact this

end Real

end Cert.KnnLoss
-- ==== Proof.RefGather.lean ====
/- The reference's two gathers read at an index: of the distances along their last axis, of the points by their number. -/
module

public import proofs.«01_k».proof.Proof.Gen.ReferenceIdeal
public import Idealize.ShloMosaic.Lib.Pointwise

@[expose] public section

noncomputable section

namespace Cert.ReferenceIdeal.Loss

open Idealize.ShloMosaic Cert.ReferenceIdeal Cert.ReferenceIdeal.Gen

theorem word_nat (n : Fin 4096) : min (BitVec.ofNat 32 n.val).toInt.toNat 4095 = n.val := by
  have := n.isLt
  have e : (BitVec.ofNat 32 n.val).toInt = n.val := by
    rw [BitVec.toInt_eq_toNat_of_lt (by rw [BitVec.toNat_ofNat]; omega), BitVec.toNat_ofNat]
    omega
  rw [e, Int.toNat_natCast]
  omega

section Dist

variable (x : S4x4096x4096.Idx → EReal) (idx : IVec S4x4096x8x1 32) (b : Fin 4) (i : Fin 4096) (k : Fin 8) (n : Fin 4096)

theorem gather_dist (h : idx (ix4 b i k 0) = BitVec.ofNat 32 n.val) : Host.gather gather_S4x4096x4096_S4x4096x8x1_S4x4096x8_n_2_01_01_2_3_111 x idx (ix3 b i k) = x (ix3 b i n) := by
  unfold Host.gather
  congr 1
  funext a
  refine Fin.ext ?_
  show gather_S4x4096x4096_S4x4096x8x1_S4x4096x8_n_2_01_01_2_3_111.start (ix3 b i k) idx a + gather_S4x4096x4096_S4x4096x8x1_S4x4096x8_n_2_01_01_2_3_111.batchCoord (ix3 b i k) a + gather_S4x4096x4096_S4x4096x8x1_S4x4096x8_n_2_01_01_2_3_111.offCoord (ix3 b i k) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · have hm : (0 : Fin 3) ∈ gather_S4x4096x4096_S4x4096x8x1_S4x4096x8_n_2_01_01_2_3_111.operandBatchingDims := by decide
    rw [GatherDims.start_batching _ _ _ _ hm, GatherDims.offCoord_eq_zero _ _ _ (fun h => ((GatherDims.mem_sKept _ _).mp h).2 hm)]
    unfold GatherDims.batchCoord
    rw [dif_pos hm, Nat.zero_add, Nat.add_zero]
    rfl
  · have hm : (1 : Fin 3) ∈ gather_S4x4096x4096_S4x4096x8x1_S4x4096x8_n_2_01_01_2_3_111.operandBatchingDims := by decide
    rw [GatherDims.start_batching _ _ _ _ hm, GatherDims.offCoord_eq_zero _ _ _ (fun h => ((GatherDims.mem_sKept _ _).mp h).2 hm)]
    unfold GatherDims.batchCoord
    rw [dif_pos hm, Nat.zero_add, Nat.add_zero]
    rfl
  · have hc : (2 : Fin 3) ∈ gather_S4x4096x4096_S4x4096x8x1_S4x4096x8_n_2_01_01_2_3_111.collapsedSliceDims := by decide
    have hb : (2 : Fin 3) ∉ gather_S4x4096x4096_S4x4096x8x1_S4x4096x8_n_2_01_01_2_3_111.operandBatchingDims := by decide
    have hs : (2 : Fin 3) ∈ gather_S4x4096x4096_S4x4096x8x1_S4x4096x8_n_2_01_01_2_3_111.startIndexMap := by decide
    rw [GatherDims.batchCoord_eq_zero _ _ _ hb, GatherDims.offCoord_eq_zero _ _ _ (fun h => ((GatherDims.mem_sKept _ _).mp h).1 hc)]
    unfold GatherDims.start
    rw [dif_pos hs]
    have hsi : gather_S4x4096x4096_S4x4096x8x1_S4x4096x8_n_2_01_01_2_3_111.siIdx (ix3 b i k) ⟨List.idxOf (2 : Fin 3) gather_S4x4096x4096_S4x4096x8x1_S4x4096x8_n_2_01_01_2_3_111.startIndexMap, List.idxOf_lt_length_iff.2 hs⟩ = ix4 b i k 0 := by
      funext c; refine Fin.ext ?_
      match c with
      | ⟨0, _⟩ => rfl
      | ⟨1, _⟩ => rfl
      | ⟨2, _⟩ => rfl
      | ⟨3, _⟩ => rfl
    rw [hsi, h]
    exact word_nat n

end Dist

section Points

variable (x : S4x4096x3.Idx → EReal) (idx : IVec S4x4096x8x1 32) (b : Fin 4) (i : Fin 4096) (k : Fin 8) (c : Fin 3) (n : Fin 4096)

theorem gather_points (h : idx (ix4 b i k 0) = BitVec.ofNat 32 n.val) : Host.gather gather_S4x4096x3_S4x4096x8x1_S4x4096x8x3_3_1_0_0_1_3_113 x idx (ix4 b i k c) = x (ix3 b n c) := by
  unfold Host.gather
  congr 1
  funext a
  refine Fin.ext ?_
  show gather_S4x4096x3_S4x4096x8x1_S4x4096x8x3_3_1_0_0_1_3_113.start (ix4 b i k c) idx a + gather_S4x4096x3_S4x4096x8x1_S4x4096x8x3_3_1_0_0_1_3_113.batchCoord (ix4 b i k c) a + gather_S4x4096x3_S4x4096x8x1_S4x4096x8x3_3_1_0_0_1_3_113.offCoord (ix4 b i k c) a = _
  have ha : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases ha with rfl | rfl | rfl
  · have hm : (0 : Fin 3) ∈ gather_S4x4096x3_S4x4096x8x1_S4x4096x8x3_3_1_0_0_1_3_113.operandBatchingDims := by decide
    rw [GatherDims.start_batching _ _ _ _ hm, GatherDims.offCoord_eq_zero _ _ _ (fun h => ((GatherDims.mem_sKept _ _).mp h).2 hm)]
    unfold GatherDims.batchCoord
    rw [dif_pos hm, Nat.zero_add, Nat.add_zero]
    rfl
  · have hc : (1 : Fin 3) ∈ gather_S4x4096x3_S4x4096x8x1_S4x4096x8x3_3_1_0_0_1_3_113.collapsedSliceDims := by decide
    have hb : (1 : Fin 3) ∉ gather_S4x4096x3_S4x4096x8x1_S4x4096x8x3_3_1_0_0_1_3_113.operandBatchingDims := by decide
    have hs : (1 : Fin 3) ∈ gather_S4x4096x3_S4x4096x8x1_S4x4096x8x3_3_1_0_0_1_3_113.startIndexMap := by decide
    rw [GatherDims.batchCoord_eq_zero _ _ _ hb, GatherDims.offCoord_eq_zero _ _ _ (fun h => ((GatherDims.mem_sKept _ _).mp h).1 hc)]
    unfold GatherDims.start
    rw [dif_pos hs]
    have hsi : gather_S4x4096x3_S4x4096x8x1_S4x4096x8x3_3_1_0_0_1_3_113.siIdx (ix4 b i k c) ⟨List.idxOf (1 : Fin 3) gather_S4x4096x3_S4x4096x8x1_S4x4096x8x3_3_1_0_0_1_3_113.startIndexMap, List.idxOf_lt_length_iff.2 hs⟩ = ix4 b i k 0 := by
      funext c; refine Fin.ext ?_
      match c with
      | ⟨0, _⟩ => rfl
      | ⟨1, _⟩ => rfl
      | ⟨2, _⟩ => rfl
      | ⟨3, _⟩ => rfl
    rw [hsi, h]
    exact word_nat n
  · have hc : (2 : Fin 3) ∉ gather_S4x4096x3_S4x4096x8x1_S4x4096x8x3_3_1_0_0_1_3_113.collapsedSliceDims := by decide
    have hb : (2 : Fin 3) ∉ gather_S4x4096x3_S4x4096x8x1_S4x4096x8x3_3_1_0_0_1_3_113.operandBatchingDims := by decide
    have hs : (2 : Fin 3) ∉ gather_S4x4096x3_S4x4096x8x1_S4x4096x8x3_3_1_0_0_1_3_113.startIndexMap := by decide
    rw [GatherDims.batchCoord_eq_zero _ _ _ hb]
    unfold GatherDims.start GatherDims.offCoord
    rw [dif_neg hs, dif_pos ((GatherDims.mem_sKept _ _).mpr ⟨hc, hb⟩), Nat.zero_add]
    rfl

end Points

end Cert.ReferenceIdeal.Loss
-- ==== Proof.Ref.lean ====
/- The reference's result over reals whose rows' nearest points are known: the loss. -/
module

public import proofs.«01_k».proof.Proof.Near
public import proofs.«01_k».proof.Proof.Loss
public import proofs.«01_k».proof.Proof.RefGather
public import proofs.«01_k».proof.Proof.Gen.ReferenceIdeal.Run
public import Idealize.ShloMosaic.Lib.Pointwise
public import Idealize.ShloMosaic.Lib.Tactic

@[expose] public section

noncomputable section

namespace Cert.ReferenceIdeal.Loss

open Idealize.ShloMosaic Idealize.ShloMosaic.TcCoe Idealize.SL.Sem
open Cert.ReferenceIdeal Cert.ReferenceIdeal.Gen Cert.KnnLoss

/-! ## The reference's arrays as functions of one cloud -/

def dist (x : FVec Ideal S4x4096x3 .f32) : FVec Ideal S4x4096x4096 .f32 :=
  Host.sqrt (maximumf (subf (addf
    (broadcastInDim S4x4096x4096 ![0, 1, 2] bcast_S4x4096x1_S4x4096x4096_0_1_2 (broadcastInDim S4x4096x1 ![0, 1] bcast_S4x4096_S4x4096x1_0_1 (Host.reduceAdd (mulf x x) (constant S_ .f32 0x00000000#32) reducesTo_S4x4096x3_S4x4096_d2 h_S_)))
    (broadcastInDim S4x4096x4096 ![0, 1, 2] bcast_S4x1x4096_S4x4096x4096_0_1_2 (broadcastInDim S4x1x4096 ![0, 2] bcast_S4x4096_S4x1x4096_0_2 (Host.reduceAdd (mulf x x) (constant S_ .f32 0x00000000#32) reducesTo_S4x4096x3_S4x4096_d2 h_S_))))
    (mulf (broadcastInDim S4x4096x4096 ![] bcast_S_S4x4096x4096 (constant S_ .f32 0x40000000#32))
      (Host.dotGeneral dot_S4x4096x3_S4x3x4096_S4x4096x4096_2_1_1_2_0_0 none x (transpose S4x3x4096 [0, 2, 1] x transposes_S4x4096x3_S4x3x4096_0_2_1))))
    (broadcastInDim S4x4096x4096 ![] bcast_S_S4x4096x4096 (constant S_ .f32 0x2B8CBCCC#32)))

def near (x : FVec Ideal S4x4096x3 .f32) : IVec S4x4096x8 32 :=
  extractStridedSlice S4x4096x8 ![0, 0, 1] ((Host.topK S4x4096x9 2 (FloatOps.cmpfTotal .gt) (Host.negf (dist x) : FVec Ideal S4x4096x4096 .f32) sliceFits_S4x4096x4096_S4x4096x9).2) slices_S4x4096x9_S4x4096x8_0_0_1

def wrapped (v : IVec S4x4096x8 32) : IVec S4x4096x8 32 :=
  select (cmpi .slt v (broadcastInDim S4x4096x8 ![] bcast_S_S4x4096x8 (constantI S_ 32 0#32))) (addi v (broadcastInDim S4x4096x8 ![] bcast_S_S4x4096x8 (constantI S_ 32 4096#32))) v

def starts (v : IVec S4x4096x8 32) : IVec S4x4096x8x1 32 := shapeCast _ (wrapped v) shapeCasts_S4x4096x8_S4x4096x8x1

def inside (v : IVec S4x4096x8 32) : IVec S4x4096x8 1 :=
  Host.reduce IntOp.andi (andi (cmpi .sge (starts v) (broadcastInDim S4x4096x8x1 ![] bcast_S_S4x4096x8x1 (constantI S_ 32 0#32))) (cmpi .sle (starts v) (broadcastInDim S4x4096x8x1 ![0, 1, 2, 3] bcast_S1x1x1x1_S4x4096x8x1_0_1_2_3 (broadcastInDim S1x1x1x1 ![3] bcast_S1_S1x1x1x1_3 (constantI S1 32 4095#32))))) (constantI S_ 1 1#1) reducesTo_S4x4096x8x1_S4x4096x8_d3 h_S_

def density (d : FVec Ideal S4x4096x4096 .f32) (v : IVec S4x4096x8 32) : FVec Ideal S4x4096 .f32 :=
  Host.divf (Host.reduceAdd (select (inside v) (Host.gather gather_S4x4096x4096_S4x4096x8x1_S4x4096x8_n_2_01_01_2_3_111 d (starts v)) (broadcastInDim S4x4096x8 ![] bcast_S_S4x4096x8 (constant S_ .f32 0x7FC00000#32))) (constant S_ .f32 0x00000000#32) reducesTo_S4x4096x8_S4x4096_d2 h_S_) (broadcastInDim S4x4096 ![] bcast_S_S4x4096 (constant S_ .f32 0x41000000#32))

def offsets (x : FVec Ideal S4x4096x3 .f32) (v : IVec S4x4096x8 32) : FVec Ideal S4x4096x8x3 .f32 :=
  subf (Host.gather gather_S4x4096x3_S4x4096x8x1_S4x4096x8x3_3_1_0_0_1_3_113 x (broadcastInDim S4x4096x8x1 ![0, 1, 2] bcast_S4x4096x8_S4x4096x8x1_0_1_2 (wrapped v))) (broadcastInDim S4x4096x8x3 ![0, 1, 2, 3] bcast_S4x4096x1x3_S4x4096x8x3_0_1_2_3 (broadcastInDim S4x4096x1x3 ![0, 1, 3] bcast_S4x4096x3_S4x4096x1x3_0_1_3 x))

def units (v : FVec Ideal S4x4096x8x3 .f32) : FVec Ideal S4x4096x8x3 .f32 :=
  Host.divf v (broadcastInDim S4x4096x8x3 ![0, 1, 2, 3] bcast_S4x4096x8x1_S4x4096x8x3_0_1_2_3 (maximumf (Host.sqrt (broadcastInDim S4x4096x8x1 ![0, 1, 2] bcast_S4x4096x8_S4x4096x8x1_0_1_2 (Host.reduceAdd (mulf v v) (constant S_ .f32 0x00000000#32) reducesTo_S4x4096x8x3_S4x4096x8_d3 h_S_))) (broadcastInDim S4x4096x8x1 ![] bcast_S_S4x4096x8x1 (constant S_ .f32 0x2B8CBCCC#32))))

def covs (v : FVec Ideal S4x4096x8x3 .f32) : FVec Ideal S4x4096x3x3 .f32 :=
  Host.divf (Host.dotGeneral dot_S4x4096x8x3_S4x4096x8x3_S4x4096x3x3_2_2_3_3_01_01 none v v) (broadcastInDim S4x4096x3x3 ![] bcast_S_S4x4096x3x3 (constant S_ .f32 0x41000000#32))

/-- The reference's last lines: of the densities' and covariances' differences and the two clouds' offsets. -/
def combine (d : FVec Ideal S4x4096 .f32) (p q : FVec Ideal S4x4096x8x3 .f32) (g : FVec Ideal S4x4096x3x3 .f32) : FVec Ideal S_ .f32 :=
  Host.divf (Host.reduceAdd (addf (addf (Host.divf (Host.reduceAdd (mulf d d) (constant S_ .f32 0x00000000#32) reducesTo_S4x4096_S4_d1 h_S_) (broadcastInDim S4 ![] bcast_S_S4 (constant S_ .f32 0x45800000#32))) (mulf (broadcastInDim S4 ![] bcast_S_S4 (constant S_ .f32 0x3F000000#32)) (subf (broadcastInDim S4 ![] bcast_S_S4 (constant S_ .f32 0x3F800000#32)) (Host.divf (Host.reduceAdd (Host.reduceAdd (mulf (units p) (units q)) (constant S_ .f32 0x00000000#32) reducesTo_S4x4096x8x3_S4x4096x8_d3 h_S_) (constant S_ .f32 0x00000000#32) reducesTo_S4x4096x8_S4_d1_2 h_S_) (broadcastInDim S4 ![] bcast_S_S4 (constant S_ .f32 0x47000000#32)))))) (mulf (broadcastInDim S4 ![] bcast_S_S4 (constant S_ .f32 0x3F000000#32)) (Host.divf (Host.reduceAdd (Host.sqrt (Host.reduceAdd (mulf g g) (constant S_ .f32 0x00000000#32) reducesTo_S4x4096x3x3_S4x4096_d2_3 h_S_)) (constant S_ .f32 0x00000000#32) reducesTo_S4x4096_S4_d1 h_S_) (broadcastInDim S4 ![] bcast_S_S4 (constant S_ .f32 0x45800000#32))))) (constant S_ .f32 0x00000000#32) reducesTo_S4_S_d0 h_S_) (constant S_ .f32 0x40800000#32)

/-- The reference's result as a function of the two clouds. -/
def result (x y : FVec Ideal S4x4096x3 .f32) : FVec Ideal S_ .f32 :=
  combine (subf (density (dist x) (near x)) (density (dist y) (near y))) (offsets x (near x)) (offsets y (near y))
    (subf (covs (offsets x (near x))) (covs (offsets y (near y))))

section Run

variable (m : (ℓ : Loc nD τ sig) → Buf (Elt Ideal) ℓ) (ρ : Dev nD → PrngReg)

theorem run_result : θ_run defs (onTc (τ := τ) (main (F := Ideal))) ⟨m, fun _ => 0, ρ⟩ fun r => ∀ c : Dev nD,
      r.2.mem ((c.tc : Thread nD τ).loc main_v104) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Cert.ReferenceIdeal.Value.run m ρ

end Run

/-! ## Their values -/

section Cloud

variable {x : FVec Ideal S4x4096x3 .f32} (b : Fin 4) (i : Fin 4096)

theorem far_at (j : Fin 4096) : (Host.negf (dist x) : FVec Ideal S4x4096x4096 .f32) (ix3 b i j) = far (fun i c => x (ix3 b i c)) i j := by
  pointwise [dist, far]

theorem near_at (k : Fin 8) : near x (ix3 b i k) = BitVec.ofNat 32 (pick (fun i c => x (ix3 b i c)) i (k.val + 1)).val := by
  have e : (fun j => (Host.negf (dist x) : FVec Ideal S4x4096x4096 .f32) (ix3 b i j)) = far (fun i c => x (ix3 b i c)) i := funext fun j => far_at b i j
  have hk := k.isLt
  have h1 := (topK_eq (Host.negf (dist x) : FVec Ideal S4x4096x4096 .f32) sliceFits_S4x4096x4096_S4x4096x9 (by norm_num) b i ⟨1 + k.val, by omega⟩).2
  rw [e] at h1
  have p2 : pick (fun i c => x (ix3 b i c)) i (k.val + 1) = order (far (fun i c => x (ix3 b i c)) i) ⟨1 + k.val, by omega⟩ :=
    congrArg (order _) (Fin.ext ((Nat.mod_eq_of_lt (by omega)).trans (Nat.add_comm _ _)))
  rw [p2]
  refine Eq.trans ?_ h1
  clear h1 p2 e
  pointwise [near]
  rfl

/-! A point's number as a word is not negative and at most 4095. -/

theorem word_int (n : Fin 4096) : (BitVec.ofNat 32 n.val).toInt = (n.val : ℤ) := by
  have := n.isLt
  rw [BitVec.toInt_eq_toNat_of_lt] <;> rw [BitVec.toNat_ofNat, Nat.mod_eq_of_lt (by omega)]
  omega

theorem word_slt (n : Fin 4096) : IntOp.cmpi .slt (BitVec.ofNat 32 n.val) 0#32 = 0#1 := by
  have h : (BitVec.ofNat 32 n.val).slt 0#32 = false := by
    rw [BitVec.slt_eq_decide, word_int]; simp
  simp [IntOp.cmpi, h]

theorem word_sge (n : Fin 4096) : IntOp.cmpi .sge (BitVec.ofNat 32 n.val) 0#32 = 1#1 := by
  have h : (0#32).sle (BitVec.ofNat 32 n.val) = true := by
    rw [BitVec.sle_eq_decide, word_int]; simp
  simp [IntOp.cmpi, h]

theorem word_sle (n : Fin 4096) : IntOp.cmpi .sle (BitVec.ofNat 32 n.val) 4095#32 = 1#1 := by
  have h : (BitVec.ofNat 32 n.val).sle 4095#32 = true := by
    have := n.isLt
    rw [BitVec.sle_eq_decide, word_int, decide_eq_true_eq]
    show (n.val : ℤ) ≤ 4095
    omega
  simp [IntOp.cmpi, h]

section Chosen

variable {v : IVec S4x4096x8 32} {k : Fin 8} {n : Fin 4096} (h : v (ix3 b i k) = BitVec.ofNat 32 n.val)

include h

theorem wrapped_at : wrapped v (ix3 b i k) = BitVec.ofNat 32 n.val := by
  pointwise [wrapped]
  rw [h, word_slt]
  rfl

theorem starts_at : starts v (ix4 b i k 0) = BitVec.ofNat 32 n.val := by
  rw [← wrapped_at b i h]
  pointwise [starts]

theorem inside_at : inside v (ix3 b i k) = 1#1 := by
  have hs := starts_at b i h
  pointwise [inside]
  rw [Finset.univ_unique, Finset.fold_singleton]
  show IntOp.andi (IntOp.andi (IntOp.cmpi .sge (starts v (ix4 b i k 0)) 0#32) (IntOp.cmpi .sle (starts v (ix4 b i k 0)) 4095#32)) 1#1 = 1#1
  rw [hs, word_sge, word_sle]
  rfl

theorem offsets_at (c : Fin 3) : offsets x v (ix4 b i k c) = x (ix3 b n c) - x (ix3 b i c) := by
  have hw := wrapped_at b i h
  have hg := gather_points x (broadcastInDim S4x4096x8x1 ![0, 1, 2] bcast_S4x4096x8_S4x4096x8x1_0_1_2 (wrapped v)) b i k c n (by
    refine Eq.trans ?_ hw
    pointwise [])
  refine Eq.trans ?_ (congrArg (· - x (ix3 b i c)) hg)
  pointwise [offsets]

end Chosen

theorem density_at {v : IVec S4x4096x8 32} (d : FVec Ideal S4x4096x4096 .f32) (n : Fin 8 → Fin 4096)
    (h : ∀ k, v (ix3 b i k) = BitVec.ofNat 32 (n k).val) :
    density d v (ix2 b i) = Ideal.div (∑ k, d (ix3 b i (n k))) (Ideal.ofBits .f32 0x41000000#32) := by
  have hg : ∀ k, Host.gather gather_S4x4096x4096_S4x4096x8x1_S4x4096x8_n_2_01_01_2_3_111 d (starts v) (ix3 b i k) = d (ix3 b i (n k)) :=
    fun k => gather_dist d (starts v) b i k (n k) (starts_at b i (h k))
  have hm : ∀ k, inside v (ix3 b i k) = 1#1 := fun k => inside_at b i (h k)
  unfold density
  generalize Host.gather gather_S4x4096x4096_S4x4096x8x1_S4x4096x8_n_2_01_01_2_3_111 d (starts v) = G at hg
  generalize inside v = M at hm
  pointwise []
  refine congrArg (Ideal.div · _) (Finset.sum_congr rfl fun k _ => ?_)
  rw [hm, hg]
  rfl

theorem units_at (v : FVec Ideal S4x4096x8x3 .f32) (k : Fin 8) (a : Fin 3 → ℝ) (h : ∀ c, v (ix4 b i k c) = ((a c : ℝ) : EReal)) (c : Fin 3) :
    units v (ix4 b i k c) = ((a c / len a : ℝ) : EReal) := by
  pointwise [units]
  simp only [h, ← EReal.coe_mul, coe_sum]
  rw [ofBits_eps, coe_sqrt (Finset.sum_nonneg fun c _ => mul_self_nonneg _), coe_max, ← len_eq, coe_div (len_pos a).ne']

theorem covs_at (v : FVec Ideal S4x4096x8x3 .f32) (w : ℕ → Fin 3 → ℝ) (h : ∀ (k : Fin 8) c, v (ix4 b i k c) = ((w k c : ℝ) : EReal)) (a c : Fin 3) :
    covs v (ix4 b i a c) = ((cov w a c : ℝ) : EReal) := by
  pointwise [covs]
  simp only [h, ← EReal.coe_mul, coe_sum]
  rw [ofBits_eight, coe_div (by norm_num)]
  rfl

theorem dist_at (j : Fin 4096) : dist x (ix3 b i j) = -far (fun i c => x (ix3 b i c)) i j := by
  rw [far, neg_neg]
  pointwise [dist]

section Real

variable {X : Fin 4 → Fin 4096 → Fin 3 → ℝ} (hx : ∀ b i c, x (ix3 b i c) = ((X b i c : ℝ) : EReal))
  {p : Fin 4 → Fin 4096 → ℕ → Fin 4096} (hp : ∀ b i k, p b i k = pick (fun i c => x (ix3 b i c)) i (k + 1))

include hx hp

theorem density_near (hk : Picks (X b) i (p b i)) : density (dist x) (near x) (ix2 b i) = ((dens (X b) i (p b i) : ℝ) : EReal) := by
  rw [density_at b i (dist x) (fun k => p b i k.val) fun k => by rw [hp]; exact near_at b i k]
  have e : ∀ k : Fin 8, dist x (ix3 b i (p b i k.val)) = ((√(sqd (X b) i (p b i k.val)) : ℝ) : EReal) := fun k => by
    rw [dist_at, far_coe (X := X b) fun i c => hx b i c, max_eq_left (hk.eps_lt k.isLt).le, EReal.coe_neg, neg_neg]
  simp only [e]
  rw [coe_sum, ofBits_eight, coe_div (by norm_num)]
  rfl

theorem offsets_near (k : Fin 8) (c : Fin 3) : offsets x (near x) (ix4 b i k c) = ((vec (X b) i (p b i) k.val c : ℝ) : EReal) := by
  rw [offsets_at (n := p b i k.val) b i (by rw [hp]; exact near_at b i k) c, hx, hx, ← EReal.coe_sub]
  rfl

end Real

end Cloud

/-! ## The last lines -/

theorem combine_at (d : FVec Ideal S4x4096 .f32) (u w : FVec Ideal S4x4096x8x3 .f32) (g : FVec Ideal S4x4096x3x3 .f32)
    {X Y : Fin 4 → Fin 4096 → Fin 3 → ℝ} {p q : Fin 4 → Fin 4096 → ℕ → Fin 4096}
    (hd : ∀ b i, d (ix2 b i) = ((dens (X b) i (p b i) - dens (Y b) i (q b i) : ℝ) : EReal))
    (hu : ∀ b i (k : Fin 8) c, units u (ix4 b i k c) = ((vec (X b) i (p b i) k.val c / len (vec (X b) i (p b i) k.val) : ℝ) : EReal))
    (hw : ∀ b i (k : Fin 8) c, units w (ix4 b i k c) = ((vec (Y b) i (q b i) k.val c / len (vec (Y b) i (q b i) k.val) : ℝ) : EReal))
    (hg : ∀ b i a c, g (ix4 b i a c) = ((cov (vec (X b) i (p b i)) a c - cov (vec (Y b) i (q b i)) a c : ℝ) : EReal)) :
    combine d u w g = fun _ => ((KnnLoss.loss X Y p q : ℝ) : EReal) := by
  funext j
  obtain rfl := Subsingleton.elim j (ix0)
  pointwise [combine]
  have root : ∀ b i, Ideal.sqrt ((∑ a, ∑ c, (cov (vec (X b) i (p b i)) a c - cov (vec (Y b) i (q b i)) a c)
      * (cov (vec (X b) i (p b i)) a c - cov (vec (Y b) i (q b i)) a c) : ℝ) : EReal) = ((term X Y p q b i 2 : ℝ) : EReal) := fun b i =>
    coe_sqrt (Finset.sum_nonneg fun a _ => Finset.sum_nonneg fun c _ => mul_self_nonneg _)
  have one : (1 : EReal) = ((1 : ℝ) : EReal) := rfl
  simp only [hd, hu, hw, hg, ← EReal.coe_mul, coe_sum, root, ofBits_points, ofBits_pairs, ofBits_half, ofBits_four,
    coe_div (show (4096 : ℝ) ≠ 0 by norm_num), coe_div (show (32768 : ℝ) ≠ 0 by norm_num), coe_div (show (4 : ℝ) ≠ 0 by norm_num),
    one, ← EReal.coe_sub, ← EReal.coe_add]
  rfl

/-- Over reals whose rows' nearest points are known the reference's result is the loss. -/
theorem result_eq {x y : FVec Ideal S4x4096x3 .f32} {X Y : Fin 4 → Fin 4096 → Fin 3 → ℝ} {p q : Fin 4 → Fin 4096 → ℕ → Fin 4096}
    (hx : ∀ b i c, x (ix3 b i c) = ((X b i c : ℝ) : EReal)) (hy : ∀ b i c, y (ix3 b i c) = ((Y b i c : ℝ) : EReal))
    (hp : ∀ b i k, p b i k = pick (fun i c => x (ix3 b i c)) i (k + 1)) (hq : ∀ b i k, q b i k = pick (fun i c => y (ix3 b i c)) i (k + 1))
    (hpx : ∀ b i, Picks (X b) i (p b i)) (hqy : ∀ b i, Picks (Y b) i (q b i)) :
    result x y = fun _ => ((KnnLoss.loss X Y p q : ℝ) : EReal) := by
  refine combine_at _ _ _ _ (fun b i => ?_) (fun b i k => ?_) (fun b i k => ?_) (fun b i a c => ?_)
  · have h1 := density_near b i hx hp (hpx b i)
    have h2 := density_near b i hy hq (hqy b i)
    generalize density (dist x) (near x) = s at h1
    generalize density (dist y) (near y) = t at h2
    rw [EReal.coe_sub, ← h1, ← h2]
    rfl
  · exact units_at b i _ k _ fun c => offsets_near b i hx hp k c
  · exact units_at b i _ k _ fun c => offsets_near b i hy hq k c
  · have h1 := covs_at b i _ _ (fun k c => offsets_near b i hx hp k c) a c
    have h2 := covs_at b i _ _ (fun k c => offsets_near b i hy hq k c) a c
    generalize covs (offsets x (near x)) = s at h1
    generalize covs (offsets y (near y)) = t at h2
    rw [EReal.coe_sub, ← h1, ← h2]
    rfl

end Cert.ReferenceIdeal.Loss
-- ==== Proof.Pre.lean ====
/- The precondition read at an index: both clouds' rows are strictly apart. -/
module

public import proofs.«01_k».proof.Proof.Near
public import proofs.«01_k».proof.Proof.Gen.Pre_no_near_tie
public import Idealize.ShloMosaic.Lib.Pointwise

@[expose] public section

noncomputable section

namespace Cert.KnnLoss

open Idealize.ShloMosaic Cert.Pre_no_near_tie Cert.Pre_no_near_tie.Facts

theorem of_ofBool {p : Prop} [Decidable p] (h : BitVec.ofBool (decide p) = 1#1) : p := by
  by_contra hc
  rw [decide_eq_false hc] at h
  exact absurd h (by decide)

/-- The negated distances, as the precondition computes them. -/
def farV [Cert.Pre_no_near_tie.Facts] (x : FVec Ideal S4x4096x3 .f32) : FVec Ideal S4x4096x4096 .f32 :=
  Host.negf (Host.sqrt (maximumf (subf (addf
    (broadcastInDim S4x4096x4096 ![0, 1, 2] bcast_S4x4096x1_S4x4096x4096_0_1_2 (broadcastInDim S4x4096x1 ![0, 1] bcast_S4x4096_S4x4096x1_0_1 (Host.reduceAdd (mulf x x) (constant S_ .f32 0x00000000#32) reducesTo_S4x4096x3_S4x4096_d2 h_S_)))
    (broadcastInDim S4x4096x4096 ![0, 1, 2] bcast_S4x1x4096_S4x4096x4096_0_1_2 (broadcastInDim S4x1x4096 ![0, 2] bcast_S4x4096_S4x1x4096_0_2 (Host.reduceAdd (mulf x x) (constant S_ .f32 0x00000000#32) reducesTo_S4x4096x3_S4x4096_d2 h_S_))))
    (mulf (broadcastInDim S4x4096x4096 ![] bcast_S_S4x4096x4096 (constant S_ .f32 0x40000000#32))
      (Host.dotGeneral dot_S4x4096x3_S4x3x4096_S4x4096x4096_2_1_1_2_0_0 none x (transpose S4x3x4096 [0, 2, 1] x transposes_S4x4096x3_S4x3x4096_0_2_1))))
    (broadcastInDim S4x4096x4096 ![] bcast_S_S4x4096x4096 (constant S_ .f32 0x2B8CBCCC#32))))

/-- Consecutive greatest entries compared, as the precondition compares them. -/
def apartV [Cert.Pre_no_near_tie.Facts] (v : FVec Ideal S4x4096x4096 .f32) : IVec S4x4096x9 1 :=
  cmpf .ogt
    (extractStridedSlice S4x4096x9 ![0, 0, 0] (Host.topK S4x4096x10 2 (FloatOps.cmpfTotal .gt) v sliceFits_S4x4096x4096_S4x4096x10).1 slices_S4x4096x10_S4x4096x9_0_0_0 : FVec Ideal S4x4096x9 .f32)
    (extractStridedSlice S4x4096x9 ![0, 0, 1] (Host.topK S4x4096x10 2 (FloatOps.cmpfTotal .gt) v sliceFits_S4x4096x4096_S4x4096x10).1 slices_S4x4096x10_S4x4096x9_0_0_1)

theorem fn_eq [Cert.Pre_no_near_tie.Facts] (x y : FVec Ideal S4x4096x3 .f32) :
    fn (F := Ideal) x y = andi (apartV (farV x)) (apartV (farV y)) := rfl

theorem farV_apply [Cert.Pre_no_near_tie.Facts] (x : FVec Ideal S4x4096x3 .f32) (b : Fin 4) (i j : Fin 4096) :
    farV x (ix3 b i j) = far (fun i c => x (ix3 b i c)) i j := by
  pointwise [farV, far]

theorem apartV_apply [Cert.Pre_no_near_tie.Facts] (x : FVec Ideal S4x4096x3 .f32) (b : Fin 4) (i : Fin 4096) (k : Fin 9)
    (h : apartV (farV x) (ix3 b i k) = 1#1) :
    far (fun i c => x (ix3 b i c)) i (pick (fun i c => x (ix3 b i c)) i (k.val + 1))
      < far (fun i c => x (ix3 b i c)) i (pick (fun i c => x (ix3 b i c)) i k.val) := by
  have e : (fun j => farV x (ix3 b i j)) = far (fun i c => x (ix3 b i c)) i := funext fun j => farV_apply x b i j
  have hk := k.isLt
  have h1 := (topK_eq (farV x) sliceFits_S4x4096x4096_S4x4096x10 (by norm_num) b i ⟨k.val, by omega⟩).1
  have h2 := (topK_eq (farV x) sliceFits_S4x4096x4096_S4x4096x10 (by norm_num) b i ⟨1 + k.val, by omega⟩).1
  rw [e, farV_apply] at h1 h2
  have p1 : pick (fun i c => x (ix3 b i c)) i k.val = order (far (fun i c => x (ix3 b i c)) i) ⟨k.val, by omega⟩ :=
    congrArg (order _) (Fin.ext (Nat.mod_eq_of_lt (by omega)))
  have p2 : pick (fun i c => x (ix3 b i c)) i (k.val + 1) = order (far (fun i c => x (ix3 b i c)) i) ⟨1 + k.val, by omega⟩ :=
    congrArg (order _) (Fin.ext ((Nat.mod_eq_of_lt (by omega)).trans (Nat.add_comm _ _)))
  rw [p1, p2]
  refine lt_of_eq_of_lt h2.symm (lt_of_lt_of_eq ?_ h1)
  clear h1 h2 p1 p2 e
  revert h
  pointwise [apartV]
  exact fun h => of_ofBool h

theorem apart_of_fn [Cert.Pre_no_near_tie.Facts] {x y : FVec Ideal S4x4096x3 .f32} (h : fn (F := Ideal) x y = fun _ => 1#1) (b : Fin 4) :
    Apart (fun i c => x (ix3 b i c)) ∧ Apart (fun i c => y (ix3 b i c)) := by
  rw [fn_eq] at h
  have key : ∀ a b : BitVec 1, IntOp.andi a b = 1#1 → a = 1#1 ∧ b = 1#1 := by decide
  have hh : ∀ i (k : Fin 9), apartV (farV x) (ix3 b i k) = 1#1 ∧ apartV (farV y) (ix3 b i k) = 1#1 := fun i k =>
    key _ _ (congrFun h (ix3 b i k))
  exact ⟨fun i k hk => apartV_apply x b i ⟨k, hk⟩ (hh i ⟨k, hk⟩).1, fun i k hk => apartV_apply y b i ⟨k, hk⟩ (hh i ⟨k, hk⟩).2⟩

end Cert.KnnLoss
-- ==== Proof.Value.lean ====
/- The two results agree: where no two of a row's ten greatest negated distances are equal, kernel and reference both
   give the loss over reals. -/
module

public import proofs.«01_k».proof.Defs
public import proofs.«01_k».proof.Proof.KOut
public import proofs.«01_k».proof.Proof.Ref
public import proofs.«01_k».proof.Proof.Pre
public import proofs.«01_k».proof.Proof.Gen.KernelIdeal.Frame

@[expose] public section

noncomputable section

namespace Cert.KnnLoss

open Idealize.ShloMosaic Idealize.ShloMosaic.TcCoe Idealize.SL.Sem

/-- The reals behind two clouds the precondition holds of, and their rows' nearest points. -/
theorem clouds {x y : FVec Ideal ⟨3, ![4, 4096, 3]⟩ .f32} (h : Cert.Pre_no_near_tie.fn (F := Ideal) x y = fun _ => 1#1) :
    ∃ (X Y : Fin 4 → Fin 4096 → Fin 3 → ℝ) (p q : Fin 4 → Fin 4096 → ℕ → Fin 4096),
      (∀ b i c, x (ix3 b i c) = ((X b i c : ℝ) : EReal)) ∧ (∀ b i c, y (ix3 b i c) = ((Y b i c : ℝ) : EReal))
      ∧ (∀ b i k, p b i k = pick (fun i c => x (ix3 b i c)) i (k + 1)) ∧ (∀ b i k, q b i k = pick (fun i c => y (ix3 b i c)) i (k + 1))
      ∧ (∀ b i, Picks (X b) i (p b i)) ∧ (∀ b i, Picks (Y b) i (q b i)) := by
  choose X hX using fun b => fun i c => real_of_apart (apart_of_fn h b).1 i c
  choose Y hY using fun b => fun i c => real_of_apart (apart_of_fn h b).2 i c
  exact ⟨X, Y, fun b i k => pick (fun i c => x (ix3 b i c)) i (k + 1), fun b i k => pick (fun i c => y (ix3 b i c)) i (k + 1),
    hX, hY, fun _ _ _ => rfl, fun _ _ _ => rfl, fun b i => picks_of_apart (hX b) (apart_of_fn h b).1 i,
    fun b i => picks_of_apart (hY b) (apart_of_fn h b).2 i⟩

section Kernel

open Cert.KernelIdeal Cert.KernelIdeal.Gen

/-- What the host's last lines leave in the kernel's result. -/
def kernelOut (m : (ℓ : Loc nD τ sig) → Buf (Elt Ideal) ℓ) (c : Dev nD) : Buf (Elt Ideal) ((c.tc : Thread nD τ).loc main_v23) :=
  Pipeline.afterTail₀ cfgs (dats m) 0 (V0 m) [hostOps1] c main_v23

/-- The kernel's run: its result, the arguments unchanged. -/
theorem kernel_run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v23) = kernelOut m c
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run (defs (F := Ideal)) _ _).mono (fun r h c => ?_) (θ_run_and (run_main m g) (frame m g))
  exact ⟨(h.1 c).2 main_v23 (Pipeline.mem_restRefs_of main_v23 (by decide) (by decide)), (h.2.1 c).1, (h.2.1 c).2⟩

theorem kernelOut_eq (m : (ℓ : Loc nD τ sig) → Buf (Elt Ideal) ℓ) {X Y : Fin 4 → Fin 4096 → Fin 3 → ℝ}
    {p q : Fin 4 → Fin 4096 → ℕ → Fin 4096} {c : Dev nD}
    (hX : ∀ b i k, m ((c : Thread nD τ).loc main_arg0) (ix3 b i k) = ((X b i k : ℝ) : EReal))
    (hY : ∀ b i k, m ((c : Thread nD τ).loc main_arg1) (ix3 b i k) = ((Y b i k : ℝ) : EReal))
    (hp : ∀ b i, Picks (X b) i (p b i)) (hq : ∀ b i, Picks (Y b) i (q b i)) :
    kernelOut m c = fun _ => ((loss X Y p q : ℝ) : EReal) :=
  Cert.KernelIdeal.Loss.result_at m hX hY hp hq

end Kernel

theorem value_claim : Cert.algebraic_KernelIdeal_ReferenceIdeal_pre_no_near_tie (hKernelIdeal := Cert.KernelIdeal.Gen.facts)
    (hReferenceIdeal := Cert.ReferenceIdeal.Gen.facts) (hPre_no_near_tie := Cert.Pre_no_near_tie.Gen.facts) := by
  intro m g m' g' hpre hargs
  refine ⟨kernelOut m, kernel_run m g, ?_⟩
  refine (θ_run _ _ _).mono (fun r h c => ⟨?_, (h c).2⟩) (Cert.ReferenceIdeal.Loss.run_result m' g')
  obtain ⟨X, Y, p, q, hX, hY, hp, hq, hpx, hqy⟩ := clouds (hpre c)
  refine (h c).1.trans ?_
  rw [(hargs c).1, (hargs c).2]
  exact (Cert.ReferenceIdeal.Loss.result_eq hX hY hp hq hpx hqy).trans (kernelOut_eq m hX hY hpx hqy).symm

end Cert.KnnLoss
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_no_near_tie
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

theorem frame_r : Cert.quiescent_ReferenceIdeal := by
  intro m ρ _
  exact (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts, Cert.Pre_no_near_tie.Gen.facts,
    fun m ρ _ => Cert.Kernel.Gen.frame m ρ,
    fun m ρ _ => Cert.KernelIdeal.Gen.frame m ρ,
    fun m ρ _ => Cert.KernelIdeal.Gen.frame m ρ,
    frame_r,
    fun m ρ _ => frame_r m ρ trivial,
    IdealRules.named_const.statement Cert.KernelIdeal.κ "big" .f32 0x7149F2CA#32 ⊤ rfl,
    Cert.KnnLoss.value_claim⟩

end Cert.Proof

end
